-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_vocabulary_KernelIdeal [hPre_ids_in_vocabulary_KernelIdeal : Cert.Pre_ids_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocabulary_ReferenceIdeal [hPre_ids_in_vocabulary_ReferenceIdeal : Cert.Pre_ids_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_vocabulary_KernelIdeal [hKernelIdeal : Cert.KernelIdeal.Facts] [hPre_ids_in_vocabulary_KernelIdeal : Cert.Pre_ids_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_vocabulary_ReferenceIdeal [hReferenceIdeal : Cert.ReferenceIdeal.Facts] [hPre_ids_in_vocabulary_ReferenceIdeal : Cert.Pre_ids_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_vocabulary_KernelIdeal [hKernelIdeal : Cert.KernelIdeal.Facts] [hReferenceIdeal : Cert.ReferenceIdeal.Facts] [hPre_ids_in_vocabulary_KernelIdeal : Cert.Pre_ids_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_vocabulary_KernelIdeal : Cert.Pre_ids_in_vocabulary_KernelIdeal.Facts) (hPre_ids_in_vocabulary_ReferenceIdeal : Cert.Pre_ids_in_vocabulary_ReferenceIdeal.Facts),
    quiescent_Kernel (hKernel := hKernel)
    ∧ quiescent_KernelIdeal (hKernelIdeal := hKernelIdeal)
    ∧ quiescent_KernelIdeal_pre_ids_in_vocabulary_KernelIdeal (hKernelIdeal := hKernelIdeal) (hPre_ids_in_vocabulary_KernelIdeal := hPre_ids_in_vocabulary_KernelIdeal)
    ∧ quiescent_ReferenceIdeal (hReferenceIdeal := hReferenceIdeal)
    ∧ quiescent_ReferenceIdeal_pre_ids_in_vocabulary_ReferenceIdeal (hReferenceIdeal := hReferenceIdeal) (hPre_ids_in_vocabulary_ReferenceIdeal := hPre_ids_in_vocabulary_ReferenceIdeal)
    ∧ preserves_Kernel_KernelIdeal
    ∧ algebraic_KernelIdeal_ReferenceIdeal_pre_ids_in_vocabulary_KernelIdeal (hKernelIdeal := hKernelIdeal) (hReferenceIdeal := hReferenceIdeal) (hPre_ids_in_vocabulary_KernelIdeal := hPre_ids_in_vocabulary_KernelIdeal)
-- ==== Pre_ids_in_vocabulary_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_ids_in_vocabulary_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .bf16) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S512x512 : Shape := ⟨2, ![512, 512]⟩
abbrev S4x128x512 : Shape := ⟨3, ![4, 128, 512]⟩
abbrev S4 : Shape := ⟨1, ![4]⟩
abbrev S_ : Shape := ⟨0, ![]⟩
abbrev S512x1 : Shape := ⟨2, ![512, 1]⟩
abbrev S128x1 : Shape := ⟨2, ![128, 1]⟩
abbrev S128x1024 : Shape := ⟨2, ![128, 1024]⟩
abbrev S1024x512 : Shape := ⟨2, ![1024, 512]⟩
abbrev S128x512 : Shape := ⟨2, ![128, 512]⟩
abbrev S1x128x512 : Shape := ⟨3, ![1, 128, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512, .i32⟩
  | .hbm, ⟨1, _⟩ => ⟨S4096x512, .bf16⟩
  | .hbm, ⟨2, _⟩ => ⟨S512x512, .f32⟩
  | .local _ .vmem, ⟨0, _⟩ => ⟨S512, .i32⟩
  | .local _ .vmem, ⟨1, _⟩ => ⟨S4096x512, .bf16⟩
  | .local _ .vmem, ⟨2, _⟩ => ⟨S512x512, .f32⟩
  | .local _ .vmem, ⟨3, _⟩ => ⟨S4x128x512, .bf16⟩
  | .local _ .vmem, ⟨4, _⟩ => ⟨S4x128x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_26 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_25 : BitVec 32 := 4#32
  let v75 : BitVec 32 := Scalar.muli v9 c4_i32_25
  let v76 : BitVec 32 := Scalar.addi c0_i32_26 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v77 : BitVec 32 := Scalar.muli v5 c2_i32_27
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v79 : BitVec 32 := Scalar.muli v8 c1_i32_28
  let v80 : BitVec 32 := Scalar.addi v78 v79
  v80.toNat
def k0_dev3 (d0 : Dev nD) : Nat :=
  let c0_i32_56 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_55 : BitVec 32 := 4#32
  let v141 : BitVec 32 := Scalar.muli v9 c4_i32_55
  let v142 : BitVec 32 := Scalar.addi c0_i32_56 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v143 : BitVec 32 := Scalar.muli v5 c2_i32_57
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v145 : BitVec 32 := Scalar.muli v8 c1_i32_58
  let v146 : BitVec 32 := Scalar.addi v144 v145
  v146.toNat
def k0_dev4 (d0 : Dev nD) : Nat :=
  let c0_i32_86 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_85 : BitVec 32 := 4#32
  let v207 : BitVec 32 := Scalar.muli v9 c4_i32_85
  let v208 : BitVec 32 := Scalar.addi c0_i32_86 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v209 : BitVec 32 := Scalar.muli v5 c2_i32_87
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v211 : BitVec 32 := Scalar.muli v8 c1_i32_88
  let v212 : BitVec 32 := Scalar.addi v210 v211
  v212.toNat
def k0_dev5 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v273 : BitVec 32 := Scalar.muli v9 c4_i32_114
  let v274 : BitVec 32 := Scalar.addi c0_i32_115 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v275 : BitVec 32 := Scalar.muli v5 c2_i32_116
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v277 : BitVec 32 := Scalar.muli v8 c1_i32_117
  let v278 : BitVec 32 := Scalar.addi v276 v277
  v278.toNat
abbrev stage0_0 : Fin 1 → Memref sig .tc .vmem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 12
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .bf16⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .bf16⟩
  | .hbm, ⟨11, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.KernelIdeal.Contents.lean ====
/-
# What the buffers of the lookup kernel hold

Each device looks the 512 ids up in its own half of the table, 128 ids (a chunk) at a time, and exchanges the four
chunks with the device that holds the other half. This module names the partner, the memrefs, the four slots of the
two exchange buffers, what one chunk comes to, and the output; and it says what a store into a slot, a landed copy
and the four stores of the output leave behind.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe

variable {F : FTy → Type} [FloatOps F]

/-! ## The partner -/

/-- The device at the same place of the mesh's second and third axes and the other place of its first. -/
def peer (c : Dev nD) : Dev nD := ⟨(c.val + 4) % 8, Nat.mod_lt _ (by decide)⟩

theorem peer_peer (c : Dev nD) : peer (peer c) = c := by revert c; decide
theorem peer_ne (c : Dev nD) : peer c ≠ c := by revert c; decide

/-- The device each of the kernel's five device computations names is the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))
theorem dev4_eq (c : Dev nD) : (⟨k0_dev4 c, k0_dev4_lt c⟩ : Dev nD) = peer c :=
  Fin.ext ((k0_dev4_eq c).trans (by revert c; decide))
theorem dev5_eq (c : Dev nD) : (⟨k0_dev5 c, k0_dev5_lt c⟩ : Dev nD) = peer c :=
  Fin.ext ((k0_dev5_eq c).trans (by revert c; decide))

/-- Swapping every device with its partner, as a permutation of the devices. -/
def partners : Dev nD ≃ Dev nD := ⟨peer, peer, peer_peer, peer_peer⟩

/-! ## Memrefs, slots and rows -/

abbrev idsM : Memref sig .tc .vmem S512 .i32 := Memref.whole cc0_stg0_0
abbrev tabM : Memref sig .tc .vmem S4096x512 .bf16 := Memref.whole cc0_stg1_0
abbrev outM : Memref sig .tc .vmem S512x512 .f32 := Memref.whole cc0_stg2_0
abbrev sndM : Memref sig .tc .vmem S4x128x512 .bf16 := Memref.whole cc0_scratch0
abbrev rcvM : Memref sig .tc .vmem S4x128x512 .bf16 := Memref.whole cc0_scratch1

theorem slot_inb (k : Fin 4) : ∀ a, (![k.val, 0, 0] : Fin 3 → ℕ) a + S1x128x512.size a ≤ S4x128x512.size a := by
  revert k; decide
theorem rows_inb (k : Fin 4) : ∀ a, (![128 * k.val, 0] : Fin 2 → ℕ) a + S128x512.size a ≤ S512x512.size a := by
  revert k; decide
theorem slab_inb (s : Fin 4) : ∀ a, (![1024 * s.val, 0] : Fin 2 → ℕ) a + S1024x512.size a ≤ S4096x512.size a := by
  revert s; decide
theorem sem_inb (k : Fin 4) : ∀ a, (![k.val] : Fin 1 → ℕ) a + S1.size a ≤ S4.size a := by revert k; decide
theorem col_slices (k : Fin 4) : S512x1.Slices ![128 * k.val, 0] S128x1 := by revert k; decide

/-- Slot `k` of an exchange buffer, rows `128 k …` of the output, slab `s` of the local table. -/
abbrev slot (k : Fin 4) : Rect S4x128x512 := Rect.unit (s := S4x128x512) ![k.val, 0, 0] S1x128x512.size (slot_inb k)
abbrev rows (k : Fin 4) : Rect S512x512 := Rect.unit (s := S512x512) ![128 * k.val, 0] S128x512.size (rows_inb k)
abbrev slabR (s : Fin 4) : Rect S4096x512 := Rect.unit (s := S4096x512) ![1024 * s.val, 0] S1024x512.size (slab_inb s)

/-- The memrefs the copies go through: a slot as a 128 × 512 block. -/
abbrev sndV (k : Fin 4) : Memref sig .tc .vmem S128x512 .bf16 :=
  (sndM.slice (slot k) (fun _ => rfl)).squeeze S128x512 squeezes_S1x128x512_S128x512
abbrev rcvV (k : Fin 4) : Memref sig .tc .vmem S128x512 .bf16 :=
  (rcvM.slice (slot k) (fun _ => rfl)).squeeze S128x512 squeezes_S1x128x512_S128x512

theorem sndV_set (k : Fin 4) : (sndV k).view.set = (sndM.access (slot k)).set := Memref.set_view_squeeze _ _
theorem rcvV_set (k : Fin 4) : (rcvV k).view.set = (rcvM.access (slot k)).set := Memref.set_view_squeeze _ _

/-- What a copy of slot `k` of the send buffer into slot `k` of the receive buffer leaves there. -/
theorem read_landed (k : Fin 4) (fd : cc0_scratch1.ty.Contents (Elt F)) (fs : cc0_scratch0.ty.Contents (Elt F)) :
    (rcvM.access (slot k)).read (Elt F) ((rcvV k).view.write (Elt F) fd ((sndV k).view.read (Elt F) fs) Finset.univ)
      = (sndM.access (slot k)).read (Elt F) fs := by
  funext x
  obtain ⟨y, rfl⟩ := (Shape.reshapeEquiv squeezes_S1x128x512_S128x512.numel_eq).surjective x
  exact congrFun (View.read_write_univ (v := (rcvV k).view) (Val := Elt F) fd ((sndV k).view.read (Elt F) fs)) y

/-- What a store into slot `k` of the send buffer leaves there. -/
theorem read_stored (k : Fin 4) (f : cc0_scratch0.ty.Contents (Elt F)) (w : FVec F S1x128x512 .bf16) :
    (sndM.access (slot k)).read (Elt F) ((sndM.access (slot k)).write (Elt F) f w Finset.univ) = w :=
  View.read_write_univ _ _

/-! ## One chunk -/

/-- The chunk's ids (as local row numbers) against the row numbers `o, o + 1, …` of one slab: one at equality, zero
elsewhere. -/
def hot (col : IVec S128x1 32) (o : BitVec 32) : FVec F S128x1024 .bf16 :=
  truncf .bf16 (sitofp .f32 (extui 32 (cmpi .eq (addi (iota .tc S128x1024 32 [1] iota_S128x1024_d1_w32)
    (broadcast S128x1024 o)) (broadcastTo S128x1024 col broadcasts_S128x1_S128x1024)) natLt_1_32)) bitsLt_bf16_f32

/-- One slab's contribution to a chunk. -/
def term (col : IVec S128x1 32) (o : BitVec 32) (E : Vec F S1024x512 .bf16) : FVec F S128x512 .f32 :=
  matmul dot_S128x1024_S1024x512_S128x512_1_0_0_1_n_n none (hot col o)
    (shapeCast S1024x512 E shapeCasts_S1024x512_S1024x512 : FVec F S1024x512 .bf16)
    (constant S128x512 .f32 0x00000000#32)

/-- A chunk: the four slabs' contributions added up. -/
def chunk (col : IVec S128x1 32) (E : Fin 4 → Vec F S1024x512 .bf16) : FVec F S128x512 .f32 :=
  addf (addf (addf (term col 0#32 (E 0)) (term col 1024#32 (E 1))) (term col 2048#32 (E 2))) (term col 3072#32 (E 3))

/-- Slab `s` of a table. -/
def slab (T : Vec F S4096x512 .bf16) (s : Fin 4) : Vec F S1024x512 .bf16 :=
  tabM.view.readAt (Elt F) (slabR s).toLoadRect T

/-- Chunk `k` of the ids as local row numbers of device `c`. -/
def col (c : Dev nD) (ids : Vec F S512 .i32) (k : Fin 4) : IVec S128x1 32 :=
  extractStridedSlice S128x1 ![128 * k.val, 0] (k0_pay1 c ids) (col_slices k)

/-- What device `c` finds for chunk `k` in its own half of the table. -/
def acc (c : Dev nD) (ids : Vec F S512 .i32) (T : Vec F S4096x512 .bf16) (k : Fin 4) : FVec F S128x512 .f32 :=
  chunk (col c ids k) (slab T)

/-- The same as it is sent. -/
def part (c : Dev nD) (ids : Vec F S512 .i32) (T : Vec F S4096x512 .bf16) (k : Fin 4) : FVec F S1x128x512 .bf16 :=
  shapeCast S1x128x512 (truncf .bf16 (acc c ids T k) bitsLt_bf16_f32) shapeCasts_S128x512_S1x128x512

/-- Own chunk and received chunk added up. -/
def joined (a : FVec F S128x512 .f32) (p : FVec F S1x128x512 .bf16) : FVec F S128x512 .f32 :=
  addf a (extf .f32 (shapeCast S128x512 p shapeCasts_S1x128x512_S128x512 : FVec F S128x512 .bf16) bitsLt_bf16_f32)

/-! ## The output -/

theorem mem_rows (k : Fin 4) (i : S512x512.Idx) :
    i ∈ (rows k).set ↔ (i 0).val / 128 = k.val := by
  rw [Rect.mem_set_unit]
  have h1 : (i 1).val < 512 := (i 1).isLt
  constructor
  · intro h
    have := h 0
    simp at this
    omega
  · intro h a
    fin_cases a <;> simp <;> omega

theorem set_rows (k : Fin 4) : (outM.access (rows k)).set = (rows k).set := View.set_slice_whole _ _

/-- An index of row block `k` is one under the block's view. -/
theorem rows_emb {k : Fin 4} {i : S512x512.Idx} (h : (i 0).val / 128 = k.val) : ∃ x, (rows k).emb x = i := by
  have hm := (mem_rows k i).mpr h
  rw [← Rect.map_emb_univ] at hm
  obtain ⟨x, -, hx⟩ := Finset.mem_map.mp hm
  exact ⟨x, hx⟩

theorem emb_rows (k : Fin 4) (x : S128x512.Idx) : (((rows k).emb x : S512x512.Idx) 0).val / 128 = k.val := by
  rw [← mem_rows, ← Rect.map_emb_univ]
  exact Finset.mem_map.mpr ⟨x, Finset.mem_univ _, rfl⟩

/-- Reading a row block of the output. -/
theorem read_rows (k : Fin 4) (f : cc0_stg2_0.ty.Contents (Elt F)) (x : S128x512.Idx) :
    (outM.access (rows k)).read (Elt F) f x = f ((rows k).emb x) := rfl

/-- Two contents of the output that read the same in all four row blocks are the same. -/
theorem ext_rows {f g : cc0_stg2_0.ty.Contents (Elt F)}
    (h : ∀ k, (outM.access (rows k)).read (Elt F) f = (outM.access (rows k)).read (Elt F) g) : f = g := by
  funext i
  have hi : (i 0).val < 512 := (i 0).isLt
  obtain ⟨x, hx⟩ := rows_emb (k := ⟨(i 0).val / 128, by omega⟩) (i := i) rfl
  have e := congrFun (h _) x
  rw [read_rows, read_rows, hx] at e
  exact e

/-- A store into one row block leaves the others. -/
theorem read_write_ne {k l : Fin 4} (h : k ≠ l) (f : cc0_stg2_0.ty.Contents (Elt F)) (w : FVec F S128x512 .f32) :
    (outM.access (rows k)).read (Elt F) ((outM.access (rows l)).write (Elt F) f w Finset.univ)
      = (outM.access (rows k)).read (Elt F) f := by
  funext x
  rw [read_rows, read_rows]
  have hn : ((rows k).emb x : S512x512.Idx) ∉ (outM.access (rows l)).setOn Finset.univ := by
    rw [View.setOn_univ, set_rows]
    intro hl
    exact h (Fin.ext ((emb_rows k x).symm.trans ((mem_rows l _).mp hl)))
  exact View.write_of_not_mem (v := outM.access (rows l)) (Val := Elt F) f w Finset.univ hn

theorem read_write_eq (k : Fin 4) (f : cc0_stg2_0.ty.Contents (Elt F)) (w : FVec F S128x512 .f32) :
    (outM.access (rows k)).read (Elt F) ((outM.access (rows k)).write (Elt F) f w Finset.univ) = w :=
  View.read_write_univ _ _

/-- The output after the four stores, whatever it held before. -/
def stores (f : cc0_stg2_0.ty.Contents (Elt F)) (w : Fin 4 → FVec F S128x512 .f32) : cc0_stg2_0.ty.Contents (Elt F) :=
  (outM.access (rows 3)).write (Elt F) ((outM.access (rows 2)).write (Elt F) ((outM.access (rows 1)).write (Elt F)
    ((outM.access (rows 0)).write (Elt F) f (w 0) Finset.univ) (w 1) Finset.univ) (w 2) Finset.univ) (w 3) Finset.univ

theorem read_stores (f : cc0_stg2_0.ty.Contents (Elt F)) (w : Fin 4 → FVec F S128x512 .f32) (k : Fin 4) :
    (outM.access (rows k)).read (Elt F) (stores f w) = w k := by
  unfold stores
  fin_cases k
  · exact (((read_write_ne (by decide) _ _).trans (read_write_ne (by decide) _ _)).trans
      (read_write_ne (by decide) _ _)).trans (read_write_eq _ _ _)
  · exact ((read_write_ne (by decide) _ _).trans (read_write_ne (by decide) _ _)).trans (read_write_eq _ _ _)
  · exact (read_write_ne (by decide) _ _).trans (read_write_eq _ _ _)
  · exact read_write_eq _ _ _

theorem stores_congr (f g : cc0_stg2_0.ty.Contents (Elt F)) (w : Fin 4 → FVec F S128x512 .f32) :
    stores f w = stores g w :=
  ext_rows fun k => (read_stores f w k).trans (read_stores g w k).symm

/-- The output whose row blocks are `w`. -/
def stacked (w : Fin 4 → FVec F S128x512 .f32) : cc0_stg2_0.ty.Contents (Elt F) :=
  stores (constant S512x512 .f32 0x00000000#32 : FVec F S512x512 .f32) w

/-! ## The slots cover an exchange buffer -/

theorem mem_slot (k : Fin 4) (i : S4x128x512.Idx) : i ∈ (slot k).set ↔ (i 0).val = k.val := by
  rw [Rect.mem_set_unit]
  have h1 : (i 1).val < 128 := (i 1).isLt
  have h2 : (i 2).val < 512 := (i 2).isLt
  constructor
  · intro h
    have := h 0
    simp at this
    omega
  · intro h a
    fin_cases a <;> simp <;> omega

theorem slots_disjoint (k l : Fin 4) (h : k ≠ l) : Disjoint (slot k).set (slot l).set :=
  Finset.disjoint_left.mpr fun i hk hl => h (Fin.ext (((mem_slot k i).mp hk).symm.trans ((mem_slot l i).mp hl)))

theorem slots_cover : Finset.univ.biUnion (fun k => (slot k).set) = (Finset.univ : Finset S4x128x512.Idx) :=
  Finset.eq_univ_of_forall fun i => Finset.mem_biUnion.mpr ⟨⟨(i 0).val, (i 0).isLt⟩, Finset.mem_univ _, (mem_slot _ i).mpr rfl⟩

theorem snd_set (k : Fin 4) : (sndM.access (slot k)).set = (slot k).set := View.set_slice_whole _ _
theorem rcv_set (k : Fin 4) : (rcvM.access (slot k)).set = (slot k).set := View.set_slice_whole _ _

/-! ## The kernel's own expressions are these chunks -/

section Payloads

variable (c : Dev nD) (ids : Vec F S512 .i32) (T : Vec F S4096x512 .bf16)

abbrev i1024 : IVec S128x1024 32 := iota .tc S128x1024 32 [1] iota_S128x1024_d1_w32

set_option maxRecDepth 65536 in
theorem acc_0 : k0_pay4 (k0_pay2 c ids) (k0_pay3 c ids (slab T 0)) i1024 1024#32 (slab T 1) (slab T 2) (slab T 3)
    = acc c ids T 0 := rfl
set_option maxRecDepth 65536 in
theorem acc_1 : k0_pay9 (k0_pay6 (k0_pay1 c ids)) (k0_pay7 (k0_pay1 c ids) (slab T 0) (slab T 1))
    (k0_pay8 (k0_pay1 c ids)) (slab T 2) (slab T 3) = acc c ids T 1 := rfl
set_option maxRecDepth 65536 in
theorem acc_2 : k0_pay14 (k0_pay12 (k0_pay1 c ids) (slab T 0) (slab T 1) (slab T 2)) (k0_pay13 (k0_pay1 c ids))
    (slab T 3) = acc c ids T 2 := rfl
set_option maxRecDepth 65536 in
theorem acc_3 : k0_pay20 (k0_pay16 (k0_pay1 c ids)) (k0_pay17 (k0_pay1 c ids) (slab T 0)) k0_pay18
    (k0_pay19 (k0_pay1 c ids)) (slab T 1) (slab T 2) (slab T 3) = acc c ids T 3 := rfl

/-- And what is stored for sending, and what is stored in the output, are these chunks as sent and as added up. -/
theorem part_0 : k0_pay5 (k0_pay2 c ids) (k0_pay3 c ids (slab T 0)) i1024 1024#32 (slab T 1) (slab T 2) (slab T 3)
    = part c ids T 0 :=
  congrArg (fun a => shapeCast S1x128x512 (truncf .bf16 a bitsLt_bf16_f32) shapeCasts_S128x512_S1x128x512) (acc_0 c ids T)
theorem part_1 : k0_pay10 (k0_pay6 (k0_pay1 c ids)) (k0_pay7 (k0_pay1 c ids) (slab T 0) (slab T 1))
    (k0_pay8 (k0_pay1 c ids)) (slab T 2) (slab T 3) = part c ids T 1 :=
  congrArg (fun a => shapeCast S1x128x512 (truncf .bf16 a bitsLt_bf16_f32) shapeCasts_S128x512_S1x128x512) (acc_1 c ids T)
theorem part_2 : k0_pay15 (k0_pay12 (k0_pay1 c ids) (slab T 0) (slab T 1) (slab T 2)) (k0_pay13 (k0_pay1 c ids))
    (slab T 3) = part c ids T 2 :=
  congrArg (fun a => shapeCast S1x128x512 (truncf .bf16 a bitsLt_bf16_f32) shapeCasts_S128x512_S1x128x512) (acc_2 c ids T)
theorem part_3 : k0_pay21 (k0_pay16 (k0_pay1 c ids)) (k0_pay17 (k0_pay1 c ids) (slab T 0)) k0_pay18
    (k0_pay19 (k0_pay1 c ids)) (slab T 1) (slab T 2) (slab T 3) = part c ids T 3 :=
  congrArg (fun a => shapeCast S1x128x512 (truncf .bf16 a bitsLt_bf16_f32) shapeCasts_S128x512_S1x128x512) (acc_3 c ids T)

theorem joined_0 (a : FVec F S128x512 .f32) (p : FVec F S1x128x512 .bf16) : k0_pay22 a p = joined a p := rfl
theorem joined_1 (a : FVec F S128x512 .f32) (p : FVec F S1x128x512 .bf16) : k0_pay23 a p = joined a p := rfl
theorem joined_2 (a : FVec F S128x512 .f32) (p : FVec F S1x128x512 .bf16) : k0_pay25 a (k0_pay24 p) = joined a p := rfl
theorem joined_3 (a : FVec F S128x512 .f32) (p : FVec F S1x128x512 .bf16) : k0_pay26 a p = joined a p := rfl

end Payloads

end Cert.KernelIdealProof

end
-- ==== Proof.KernelIdeal.Protocol.lean ====
/-
# The exchange between two partners

Nine semaphores a device: the barrier, four send semaphores and four receive semaphores, one of each for every chunk.
A device's barrier signal hands its partner the four slots of its receive buffer; a copy of chunk `k` hands the
sender's slot back at the sender's semaphore and the filled slot over at the receiver's. Every semaphore carries one
unit of work in one round.
-/
module

public import proofs.«01_k».proof.Proof.KernelIdeal.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds' ghost state: the staging copies' and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Semaphores -/

abbrev barS : Sem sig := (SemArray.scalar (sig.barrier 0 rfl) : Sems sig S_).sem
abbrev sndS (k : Fin 4) : DmaSems sig S_ :=
  (cc0_scratch2.slice (Rect.unit (s := S4) ![k.val] S1.size (sem_inb k))).squeeze S_ squeezes_S1_S_
abbrev rcvS (k : Fin 4) : DmaSems sig S_ :=
  (cc0_scratch3.slice (Rect.unit (s := S4) ![k.val] S1.size (sem_inb k))).squeeze S_ squeezes_S1_S_

/-- The kernel's own semaphores: of chunk `k`, the one that counts its sending (`false`) or its arrival (`true`). -/
abbrev Own : Type := Bool × Fin 4
/-- Those and the barrier. -/
abbrev Cell : Type := Option Own

abbrev osem : Own → SemLoc sig
  | (false, k) => .dma (sndS k).sem
  | (true, k) => .dma (rcvS k).sem
abbrev csem : Cell → SemLoc sig
  | none => .reg barS
  | some o => osem o

abbrev cell (c : Dev nD) (κ : Cell) : GSem nD τ sig := ((c : Thread nD τ), csem κ)
abbrev barC : Cell := none
abbrev sndC (k : Fin 4) : Cell := some (false, k)
abbrev rcvC (k : Fin 4) : Cell := some (true, k)

theorem osem_injective : Function.Injective osem := by decide
theorem csem_injective : Function.Injective csem := by
  rintro (_ | a) (_ | b) h
  · rfl
  · obtain ⟨_ | _, _⟩ := b <;> cases h
  · obtain ⟨_ | _, _⟩ := a <;> cases h
  · exact congrArg some (osem_injective h)

theorem cell_injective : Function.Injective (fun x : Dev nD × Cell => cell x.1 x.2) := by
  rintro ⟨c, κ⟩ ⟨c', κ'⟩ h
  have h1 : c = c' := congrArg (fun g : GSem nD τ sig => g.1.1) h
  have h2 : κ = κ' := csem_injective (congrArg Prod.snd h)
  rw [h1, h2]

theorem cell_eq_iff {c c' : Dev nD} {κ κ' : Cell} : cell c κ = cell c' κ' ↔ c = c' ∧ κ = κ' :=
  ⟨fun h => by have := @cell_injective (c, κ) (c', κ') h; exact ⟨congrArg Prod.fst this, congrArg Prod.snd this⟩,
    fun ⟨h, h'⟩ => by rw [h, h']⟩

/-- Which of the nine a semaphore is. -/
def decode : SemLoc sig → Option Cell
  | .reg _ => some none
  | .dma q => if h : 3 ≤ q.val ∧ q.val < 7 then some (sndC ⟨q.val - 3, by omega⟩)
      else if h : 7 ≤ q.val ∧ q.val < 11 then some (rcvC ⟨q.val - 7, by omega⟩) else none

theorem decode_csem (κ : Cell) : decode (csem κ) = some κ := by revert κ; decide

/-! ## Slots -/

/-- What one copy raises its semaphores by. -/
abbrev N : ℕ := (rcvV 0).view.dmaCredit
theorem N_pos : 0 < N := View.dmaCredit_pos _ (by decide)
theorem credit_rcv (k : Fin 4) : (rcvV k).view.dmaCredit = N := rfl
theorem credit_snd (k : Fin 4) : (sndV k).view.dmaCredit = N := rfl

/-- Slot `k` of device `c`'s send buffer, holding `p`. -/
def sndHeld (c : Dev nD) (k : Fin 4) (p : FVec F S1x128x512 .bf16) : sProp 𝕄 :=
  iprop(∃ f : Buf (Elt F) ((c : Thread nD τ).loc cc0_scratch0), ⌜(sndM.access (slot k)).read (Elt F) f = p⌝
    ∗ (((c : Thread nD τ).loc cc0_scratch0) ↦[(sndM.access (slot k)).set]{fullShare} f))
/-- Slot `k` of device `c`'s receive buffer, holding `p`. -/
def rcvHeld (c : Dev nD) (k : Fin 4) (p : FVec F S1x128x512 .bf16) : sProp 𝕄 :=
  iprop(∃ f : Buf (Elt F) ((c : Thread nD τ).loc cc0_scratch1), ⌜(rcvM.access (slot k)).read (Elt F) f = p⌝
    ∗ (((c : Thread nD τ).loc cc0_scratch1) ↦[(rcvM.access (slot k)).set]{fullShare} f))
/-- The same slots, holding anything. -/
def sndAny (c : Dev nD) (k : Fin 4) : sProp 𝕄 :=
  iprop(∃ f : Buf (Elt F) ((c : Thread nD τ).loc cc0_scratch0),
    ((c : Thread nD τ).loc cc0_scratch0) ↦[(sndM.access (slot k)).set]{fullShare} f)
def rcvAny (c : Dev nD) (k : Fin 4) : sProp 𝕄 :=
  iprop(∃ f : Buf (Elt F) ((c : Thread nD τ).loc cc0_scratch1),
    ((c : Thread nD τ).loc cc0_scratch1) ↦[(rcvM.access (slot k)).set]{fullShare} f)

omit [FloatOps F] in
theorem rcvHeld_any (c : Dev nD) (k : Fin 4) (p : FVec F S1x128x512 .bf16) :
    (rcvHeld c k p : sProp 𝕄) ⊢ rcvAny c k := by
  unfold rcvHeld rcvAny
  iintro ⟨%f, -, H⟩
  iexists f; iexact H

omit [FloatOps F] in
instance rcvHeld_storable (c : Dev nD) (k : Fin 4) (p : FVec F S1x128x512 .bf16) :
    BI.Storable (upEmb : UEmb _ 𝕄) (rcvHeld (F := F) c k p) := by unfold rcvHeld; infer_instance
omit [FloatOps F] in
instance sndAny_storable (c : Dev nD) (k : Fin 4) : BI.Storable (upEmb : UEmb _ 𝕄) (sndAny (F := F) c k) := by
  unfold sndAny; infer_instance
omit [FloatOps F] in
instance rcvAny_storable (c : Dev nD) (k : Fin 4) : BI.Storable (upEmb : UEmb _ 𝕄) (rcvAny (F := F) c k) := by
  unfold rcvAny; infer_instance

/-! ## What the devices start from -/

/-- The ids and the half of the table as staged on device `c`. -/
def idsAt (c : Dev nD) : (cc0_stg0_0 : Ref sig .tc).ty.Contents (Elt F) :=
  (win0_0.blk (0 : Fin 1)).view.read (Elt F) (m ((c : Thread nD τ).loc main_arg0))
def tabAt (c : Dev nD) : (cc0_stg1_0 : Ref sig .tc).ty.Contents (Elt F) :=
  (win0_1.blk (0 : Fin 1)).view.read (Elt F) (m ((c : Thread nD τ).loc main_arg1))

/-- Chunk `k` as device `c` computes it and as it sends it. -/
def accAt (c : Dev nD) (k : Fin 4) : FVec F S128x512 .f32 := acc c (idsAt m c) (tabAt m c) k
def partAt (c : Dev nD) (k : Fin 4) : FVec F S1x128x512 .bf16 := part c (idsAt m c) (tabAt m c) k

/-- Device `c`'s output: in each row block its own chunk and its partner's added up. -/
def outAt (c : Dev nD) : (cc0_stg2_0 : Ref sig .tc).ty.Contents (Elt F) :=
  stacked fun k => joined (accAt m c k) (partAt m (peer c) k)

/-! ## The schedule -/

/-- What a semaphore's round hands its owner: the barrier the partner's four receive slots, a send semaphore the own
slot back, a receive semaphore the own slot with the partner's chunk in it. -/
abbrev pay (c : Dev nD) : Cell → sProp 𝕄
  | none => iprop(rcvAny (peer c) 0 ∗ rcvAny (peer c) 1 ∗ rcvAny (peer c) 2 ∗ rcvAny (peer c) 3)
  | some (false, k) => sndAny c k
  | some (true, k) => rcvHeld c k (partAt m (peer c) k)

def sched : Rounds.Schedule (GSem nD τ sig) Unit 𝕄 where
  duties g r := if r = 0 ∧ g.1.2 = .tc ∧ (decode g.2).isSome then {()} else ∅
  unitless _ := False
  amount g _ _ := match g.2 with
    | .reg _ => 1
    | .dma _ => N
  payload g _ _ := match decode g.2 with
    | none => iprop(emp)
    | some κ => pay m g.1.1 κ
  amount_pos g _ _ _ := by
    rcases g with ⟨_, _ | _⟩
    · exact Nat.one_pos
    · exact N_pos

instance sched_storable (g : GSem nD τ sig) (r : ℕ) (d : Unit) :
    BI.Storable (upEmb : UEmb _ 𝕄) ((sched (F := F) m).payload g r d) := by
  show BI.Storable upEmb (match decode g.2 with | none => iprop(emp) | some κ => pay m g.1.1 κ)
  rcases decode g.2 with _ | _ | ⟨_ | _, k⟩ <;> dsimp only [pay] <;> infer_instance

theorem duties_cell (c : Dev nD) (κ : Cell) : (sched (F := F) m).duties (cell c κ) 0 = {()} := by
  dsimp only [sched]; rw [decode_csem]; exact if_pos ⟨rfl, rfl, rfl⟩
theorem mem_duties (c : Dev nD) (κ : Cell) : () ∈ (sched (F := F) m).duties (cell c κ) 0 := by
  rw [duties_cell]; exact Finset.mem_singleton_self _
theorem duties_later (g : GSem nD τ sig) : ∀ r, 1 ≤ r → (sched (F := F) m).duties g r = ∅ :=
  fun r hr => by dsimp only [sched]; exact if_neg fun h => by omega

/-- What the nine semaphores' rounds amount to. -/
abbrev amt : Cell → ℕ
  | none => 1
  | some _ => N

theorem amount_cell (c : Dev nD) (κ : Cell) (u : Unit) : (sched (F := F) m).amount (cell c κ) 0 u = amt κ := by
  rcases κ with _ | ⟨_ | _, k⟩ <;> rfl
theorem expect_cell (c : Dev nD) (κ : Cell) : (sched (F := F) m).expect (cell c κ) 0 = amt κ := by
  unfold Schedule.expect Schedule.amountOf; rw [duties_cell, Finset.sum_singleton, amount_cell]
theorem payload_cell (c : Dev nD) (κ : Cell) (u : Unit) : (sched (F := F) m).payload (cell c κ) 0 u = pay m c κ := by
  dsimp only [sched]; rw [decode_csem]
theorem rest_cell (c : Dev nD) (κ : Cell) :
    bigSep ((sched (F := F) m).duties (cell c κ) 0 \ ∅) (fun u => (sched (F := F) m).payload (cell c κ) 0 u) = pay m c κ := by
  rw [Finset.sdiff_empty, duties_cell, bigSep_singleton, payload_cell]

/-! ## What a device owes -/

/-- What device `c` still owes its partner's receive semaphores before it sends chunk `n`. -/
def rest (c : Dev nD) (n : ℕ) : CellTallies nD τ sig Unit :=
  ∑ k ∈ Finset.univ.filter (fun k : Fin 4 => n ≤ k.val), tallyAt (cell (peer c) (rcvC k)) () N
/-- At launch it owes its partner's barrier a unit besides. -/
def O₀ (c : Dev nD) : CellTallies nD τ sig Unit := rest c 0 + tallyAt (cell (peer c) barC) () 1

theorem rest_step (c : Dev nD) (k : Fin 4) : rest c k.val = rest c (k.val + 1) + tallyAt (cell (peer c) (rcvC k)) () N := by
  unfold rest
  rw [show (Finset.univ.filter fun j : Fin 4 => k.val ≤ j.val) = insert k (Finset.univ.filter fun j : Fin 4 => k.val + 1 ≤ j.val) from by
    revert k; decide, Finset.sum_insert (by simp), add_comm]
theorem rest_end (c : Dev nD) : rest c 4 = 0 := by
  unfold rest
  rw [show (Finset.univ.filter fun j : Fin 4 => 4 ≤ j.val) = ∅ from by decide]; exact Finset.sum_empty

theorem tally_sum_apply (S : Finset (Fin 4)) (f : Fin 4 → CellTallies nD τ sig Unit) (g : GSem nD τ sig) (u : Unit) :
    (∑ k ∈ S, f k) g u = ∑ k ∈ S, f k g u := by
  induction S using Finset.induction_on with
  | empty => rfl
  | insert a S ha ih => rw [Finset.sum_insert ha, Finset.sum_insert ha, Pi.add_apply, Finsupp.add_apply, ih]

theorem rest_apply (c : Dev nD) (n : ℕ) (g : GSem nD τ sig) (u : Unit) :
    rest c n g u = ∑ k ∈ Finset.univ.filter (fun k : Fin 4 => n ≤ k.val), if g = cell (peer c) (rcvC k) ∧ u = () then N else 0 := by
  unfold rest; rw [tally_sum_apply]
  exact Finset.sum_congr rfl fun k _ => tallyAt_apply ..

theorem rest_pos {c : Dev nD} {n : ℕ} {g : GSem nD τ sig} {u : Unit} (h : 0 < rest c n g u) :
    ∃ k, g = cell (peer c) (rcvC k) := by
  rw [rest_apply] at h
  obtain ⟨k, -, hk⟩ := Finset.exists_ne_zero_of_sum_ne_zero h.ne'
  refine ⟨k, ?_⟩
  by_contra hn
  exact hk (if_neg fun h' => hn h'.1)

theorem O₀_pos {c : Dev nD} {g : GSem nD τ sig} {u : Unit} (h : 0 < O₀ c g u) :
    (∃ k, g = cell (peer c) (rcvC k)) ∨ g = cell (peer c) barC := by
  unfold O₀ at h
  rw [Pi.add_apply, Finsupp.add_apply, tallyAt_apply] at h
  by_cases h' : g = cell (peer c) barC ∧ u = ()
  · exact Or.inr h'.1
  · rw [if_neg h', add_zero] at h
    exact Or.inl (rest_pos h)

def L (g : GSem nD τ sig) : Finset Unit := if g.1.2 = .tc then {()} else ∅
/-- The order the semaphores are waited for in: the staging copies' and the send semaphores lowest, then the barrier,
then the receive semaphores. -/
def lv (g : GSem nD τ sig) (_ : Unit) : ℕ := match decode g.2 with
  | some none => 1
  | some (some (true, _)) => 2
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (k : Fin 4) (u : Unit) : lv (cell c (rcvC k)) u = 2 := by
  unfold lv; rw [show decode (cell c (rcvC k)).2 = some (rcvC k) from decode_csem (rcvC k)]
theorem lv_bar (c : Dev nD) (u : Unit) : lv (cell c barC) u = 1 := rfl

omit [FloatOps F] in
/-- A staging copy may be waited for at launch and at the end. -/
theorem mayWait_stage (c : Dev nD) (q : DmaSem sig) (hq : decode (.dma q) = none) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; unfold lv; dsimp only; rw [hq])
      (fun g u hg => by
        rcases O₀_pos hg with ⟨k, rfl⟩ | rfl
        · rw [lv_rcv]; decide
        · rw [lv_bar]; decide)
  · rw [MayWait_zero]; iintro -; iempintro

omit [FloatOps F] in
/-- The barrier may be waited for while only arrivals are owed. -/
theorem mayWait_bar (c : Dev nD) : (levAts L lv : sProp 𝕄) ⊢ MayWait (c : Thread nD τ) (.reg barS) () (rest c 0) :=
  MayOwe.of_cut (L := L) (lev := lv) 1
    (fun p hp => by rw [Finset.mem_singleton.mp hp, L_tc]; exact Finset.mem_singleton_self _)
    (fun g u hg => by obtain ⟨k, rfl⟩ := rest_pos hg; exact Finset.mem_singleton_self _)
    (fun p hp => by rw [Finset.mem_singleton.mp hp]; exact le_rfl)
    (fun g u hg => by obtain ⟨k, rfl⟩ := rest_pos hg; rw [lv_rcv]; decide)

/-! ## What a device holds -/

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_cells (Φ : Cell → sProp 𝕄) : bigSep Finset.univ Φ
    = iprop(Φ barC ∗ Φ (sndC 0) ∗ Φ (sndC 1) ∗ Φ (sndC 2) ∗ Φ (sndC 3) ∗ Φ (rcvC 0) ∗ Φ (rcvC 1) ∗ Φ (rcvC 2) ∗ Φ (rcvC 3)) :=
  bigSep_univ_eq_bigSepL [barC, sndC 0, sndC 1, sndC 2, sndC 3, rcvC 0, rcvC 1, rcvC 2, rcvC 3] (by decide) (by decide) Φ

/-- Every semaphore of every device is under its invariant, at the names `K`, and has reached its round. -/
def records (K : Dev nD × Cell → ℕ) : sProp 𝕄 :=
  iprop((bigSep Finset.univ fun x : Dev nD × Cell => cellInv ER (sched m) (K x) (cell x.1 x.2))
    ∗ bigSep Finset.univ fun x : Dev nD × Cell => reached ER (cell x.1 x.2) 0)
instance records_persistent (K : Dev nD × Cell → ℕ) : BI.Persistent (records m K) := by unfold records; infer_instance

theorem inv_at (K : Dev nD × Cell → ℕ) (c : Dev nD) (κ : Cell) :
    records m K ⊢ cellInv ER (sched m) (K (c, κ)) (cell c κ) :=
  sep_elim_left.trans
    (bigSep_elim (Φ := fun x : Dev nD × Cell => (cellInv ER (sched m) (K x) (cell x.1 x.2) : sProp 𝕄)) (Finset.mem_univ (c, κ)))
theorem reached_at (K : Dev nD × Cell → ℕ) (c : Dev nD) (κ : Cell) : records m K ⊢ reached ER (cell c κ) 0 :=
  sep_elim_right.trans
    (bigSep_elim (Φ := fun x : Dev nD × Cell => (reached ER (cell x.1 x.2) 0 : sProp 𝕄)) (Finset.mem_univ (c, κ)))

/-- The device whose semaphore of the kind `κ` device `c` raises. -/
abbrev payee (c : Dev nD) : Cell → Dev nD
  | some (false, _) => c
  | _ => peer c
theorem payee_payee (c : Dev nD) (κ : Cell) : payee (payee c κ) κ = c := by
  rcases κ with _ | ⟨_ | _, k⟩
  · exact peer_peer c
  · rfl
  · exact peer_peer c

/-- The rights to raise the nine semaphores device `c` raises. -/
def payToks (c : Dev nD) : sProp 𝕄 := bigSep Finset.univ fun κ : Cell => dutyTok ER (cell (payee c κ) κ) 0 ()
/-- Device `c`'s place in the rounds of its own nine. -/
def places (c : Dev nD) : sProp 𝕄 := bigSep Finset.univ fun κ : Cell => atPos ER (cell c κ) 0 ∅ 0

def ghost (K : Dev nD × Cell → ℕ) (c : Dev nD) : sProp 𝕄 := iprop(records m K ∗ places c ∗ payToks c)

/-- The claims on what its partner will raise. -/
def claims (c : Dev nD) : sProp 𝕄 :=
  iprop(cred (tallyAt (cell c barC) () 1) ∗ bigSep Finset.univ fun k : Fin 4 => cred (tallyAt (cell c (rcvC k)) () N))

def start (c : Dev nD) : sProp 𝕄 := iprop((∃ K, ghost m K c) ∗ claims c ∗ levAts L lv)

/-- Both exchange buffers, slot by slot. -/
def slots (c : Dev nD) : sProp 𝕄 :=
  iprop((bigSep Finset.univ fun k => sndAny c k) ∗ bigSep Finset.univ fun k => rcvAny c k)

def Φ₀ (c : Dev nD) : sProp 𝕄 := iprop(start m c ∗ slots c)
def Φ₁ (c : Dev nD) : sProp 𝕄 := iprop(slots c ∗ bigSep Finset.univ fun κ : Cell => semVal (cell c κ) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => idsAt m c
    | ⟨1, _⟩ => tabAt m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.KernelIdeal.Steps.lean ====
/-
# The body's operations, one rule each

What the body does to a slot, a slab, a row block or a semaphore, stated for whichever of the four it is.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

/-- Running `p` on device `c` ends in `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
def due (c : Dev nD) (O : CellTallies nD τ sig Unit) : sProp 𝕄 := iprop(∃ W, owes (c : Thread nD τ) O W)

/-! ## Semaphores -/

theorem bar_pays : iprop(rcvAny c 0 ∗ rcvAny c 1 ∗ rcvAny c 2 ∗ rcvAny c 3)
    ⊢ (sched (F := F) m).payload (cell (peer c) barC) 0 () := by
  rw [payload_cell]; unfold pay; rw [peer_peer]

/-- The signal: the partner gets this device's receive slots. -/
theorem step_signal {α : Type} {Q : α → sProp 𝕄} {n : Dev nD} (hn : n = peer c) {k : PUnit → Prog (TpuEff nD τ sig (Elt F) Λ₀ .tc) α} :
    iprop(records m K ∗ due c (O₀ c) ∗ dutyTok ER (cell (payee c barC) barC) 0 ()
        ∗ (rcvAny c 0 ∗ rcvAny c 1 ∗ rcvAny c 2 ∗ rcvAny c 3))
      ⊢ iprop((due c (rest c 0) -∗ Runs c (k ⟨⟩) Q)
        -∗ Runs c (.op (.semSignal (n : Thread nD τ) barS (1#32).toNat) k) Q) := by
  subst hn
  unfold due
  iintro ⟨#HR, ⟨%W, HO⟩, Ht, Hs⟩ Hk
  iapply (Rounds.wp_signal 𝒱₀ ER (sched m) (c : Thread nD τ) none (dst := (peer c : Thread nD τ)) (κ := K (peer c, barC))
      (d := ()) (mem_duties m (peer c) barC) (amount_cell m (peer c) barC ()) () (rest c 0) rfl) $$ [HO Ht Hs]
  · isplitr; · iapply (inv_at m K (peer c) barC); iexact HR
    isplitl [HO]; · iexact HO
    isplitl [Ht]; · iexact Ht
    isplitl [Hs]
    · iapply (bar_pays m c); iexact Hs
    iapply (reached_at m K (peer c) barC); iexact HR
  iintro HO
  iapply Hk
  iexists W; iexact HO

/-- A wait for a semaphore's whole round: what the round hands over. -/
theorem step_wait {α : Type} {Q : α → sProp 𝕄} (κ : Cell) (O : CellTallies nD τ sig Unit) {w : TpuEff nD τ sig (Elt F) Λ₀ .tc PUnit} {a : ℕ}
    (hw : ∀ T : PUnit → sProp 𝕄, wpE (defs₀ (F := F)) 𝒱₀ (c : Thread nD τ) none Set.univ w T
      = waitSpec (c : Thread nD τ) Set.univ (csem κ) a T) (ha : a = amt κ)
    (hO : (levAts L lv : sProp 𝕄) ⊢ MayWait (c : Thread nD τ) (csem κ) () O)
    {k : PUnit → Prog (TpuEff nD τ sig (Elt F) Λ₀ .tc) α} :
    iprop(records m K ∗ levAts L lv ∗ cred (tallyAt (cell c κ) () (amt κ)) ∗ due c O ∗ atPos ER (cell c κ) 0 ∅ 0)
      ⊢ iprop(((due c O ∗ atPos ER (cell c κ) 1 ∅ 0 ∗ pay m c κ) -∗ Runs c (k ⟨⟩) Q)
        -∗ Runs c (.op w k) Q) := by
  subst ha
  unfold due
  iintro ⟨#HR, #HL, Hc, ⟨%W, HO⟩, Ha⟩ Hk
  iapply (Rounds.wp_wait_rest_token 𝒱₀ ER (sched m) (c : Thread nD τ) none (κ := K (c, κ)) hw (Set.mem_univ _) ()
      (O := O) (W := W) (R := 0) (m := 0) (T := ∅) (by rw [Nat.zero_add]; exact (expect_cell m c κ).symm)) $$ [Hc HO Ha]
  · isplitr; · iapply (inv_at m K c κ); iexact HR
    isplitl [Hc]; · iexact Hc
    isplitl [HO]; · iexact HO
    isplitr; · iapply hO; iexact HL
    iexact Ha
  iintro ⟨HO, Ha, -, Hp⟩
  iapply Hk
  isplitl [HO]; · iexists _; iexact HO
  isplitl [Ha]; · iexact Ha
  iapply (Entails.of_eq (rest_cell m c κ)); iexact Hp

theorem sent_pays (k : Fin 4) (fs : Buf (Elt F) ((c : Thread nD τ).loc cc0_scratch0)) :
    (((sndV k).view.loc (c : Thread nD τ)) ↦[(sndV k).view.set]{fullShare} fs)
      ⊢ (sched (F := F) m).payload (cell c (sndC k)) 0 () := by
  rw [payload_cell]
  unfold pay sndAny
  rw [sndV_set]
  iintro H; iexists fs; iexact H

theorem landed_pays (k : Fin 4) (fs : Buf (Elt F) ((c : Thread nD τ).loc cc0_scratch0))
    (fd : Buf (Elt F) ((peer c : Thread nD τ).loc cc0_scratch1))
    (h : (sndM.access (slot k)).read (Elt F) fs = partAt m c k) :
    (((rcvV k).view.loc (peer c : Thread nD τ)) ↦[(rcvV k).view.set]{fullShare}
        ((rcvV k).view.write (Elt F) fd ((sndV k).view.read (Elt F) fs) Finset.univ))
      ⊢ (sched (F := F) m).payload (cell (peer c) (rcvC k)) 0 () := by
  rw [payload_cell]
  unfold pay rcvHeld
  rw [rcvV_set, peer_peer]
  iintro H; iexists _
  isplitr; · ipureintro; exact (read_landed k fd fs).trans h
  iexact H

/-- The copy of chunk `k` to the partner. -/
theorem step_send {α : Type} {Q : α → sProp 𝕄} (k : Fin 4) {n : Dev nD} (hn : n = peer c)
    {hsc : (rcvV k).view.ref.isScScratch = false} {hsrc : (sndV k).view.WordExact} {hdst : (rcvV k).view.WordExact}
    {hsem : DmaTarget.Typed .vmem (.dma (rcvS k).sem) (.remote (Dev.tc n : Thread nD τ) (rcvV k) (.dma (sndS k).sem) hsc)}
    {f : PUnit → Prog (TpuEff nD τ sig (Elt F) Λ₀ .tc) α} :
    iprop(records m K ∗ sndHeld c k (partAt m c k) ∗ rcvAny (peer c) k ∗ due c (rest c k.val)
        ∗ dutyTok ER (cell (payee c (sndC k)) (sndC k)) 0 () ∗ dutyTok ER (cell (payee c (rcvC k)) (rcvC k)) 0 ())
      ⊢ iprop(((cred (tallyAt (cell c (sndC k)) () N) ∗ due c (rest c (k.val + 1))) -∗ Runs c (f ⟨⟩) Q)
        -∗ Runs c (.op (.enqueueDma (sndV k) (.remote (Dev.tc n : Thread nD τ) (rcvV k) (.dma (sndS k).sem) hsc)
          (.dma (rcvS k).sem) hsrc hdst hsem) f) Q) := by
  subst hn
  unfold due sndHeld rcvAny
  iintro ⟨#HR, ⟨%fs, %hfs, Hs⟩, ⟨%fd, Hd⟩, ⟨%W, HO⟩, Ht, Ht'⟩ Hk
  iapply (Rounds.wp_send_pointsTo (defs := defs₀ (F := F)) 𝒱₀ ER (sched m) (c : Thread nD τ) none
      (c' := (peer c : Thread nD τ)) (src := sndV k) (dst := rcvV k) (sS := .dma (sndS k).sem) (sem := .dma (rcvS k).sem)
      (hsc := hsc) (hsrc := hsrc) (hdst := hdst) (hsem := hsem) (κ₁ := K (c, sndC k)) (κ₂ := K (peer c, rcvC k))
      (q := fullShare) (fs := fs) (r₁ := 0) (r₂ := 0) (d₁ := ()) (d₂ := ()) (fd := fd)
      (mem_duties m c (sndC k)) (mem_duties m (peer c) (rcvC k)) () () N (credit_rcv k)
      (amount_cell m c (sndC k) ()) (amount_cell m (peer c) (rcvC k) ()) (rest c (k.val + 1)) (rest_step c k) (W := W)
      (sent_pays m c k fs) (landed_pays m c k fs fd hfs)) $$ [Hs Hd HO Ht Ht']
  · isplitr; · iapply (inv_at m K c (sndC k)); iexact HR
    isplitr; · iapply (inv_at m K (peer c) (rcvC k)); iexact HR
    isplitl [Hs]; · rw [sndV_set]; iexact Hs
    isplitl [Hd]; · rw [rcvV_set]; iexact Hd
    isplitl [HO]; · iexact HO
    isplitl [Ht]; · iexact Ht
    isplitr; · iapply (reached_at m K c (sndC k)); iexact HR
    isplitl [Ht']; · iexact Ht'
    iapply (reached_at m K (peer c) (rcvC k)); iexact HR
  iintro ⟨Hc, HO⟩
  iapply Hk
  isplitl [Hc]; · iexact Hc
  iexists W; iexact HO

/-- Every round done, the nine counters come back at zero. -/
theorem close_all : iprop(records m K ∗ bigSep Finset.univ fun κ : Cell => atPos ER (cell c κ) 1 ∅ 0)
    ⊢ iprop(|={Set.univ}=> bigSep Finset.univ fun κ : Cell => (semVal (cell c κ) 0 : sProp 𝕄)) := by
  refine BIBase.Entails.trans ?_ (bigSep_fupd _ _)
  refine (sep_mono_left (BI.bigSep_of_persistent (Finset.univ : Finset Cell) (records m K))).trans ?_
  rw [← bigSep_sep']
  refine bigSep_mono fun κ _ => ?_
  exact (sep_mono_left (inv_at m K c κ)).trans
    (Rounds.cell_close ER (sched m) (Set.mem_univ (K (c, κ))) (fun h => h) (R := 1) (duties_later m (cell c κ)))

/-! ## Loads and stores -/

theorem load_slab {α : Type} {Q : α → sProp 𝕄} (s : Fin 4) {o : Fin 2 → ℕ} (ho : o = ![1024 * s.val, 0])
    {T : Buf (Elt F) ((c : Thread nD τ).loc cc0_stg1_0)} {hb : ∀ a, o a + S1024x512.size a ≤ S4096x512.size a}
    {hl : tabM.view.LoadsAt (Rect.unit (s := S4096x512) o S1024x512.size hb).toLoadRect}
    {k : Vec F S1024x512 .bf16 → Prog (TpuEff nD τ sig (Elt F) Λ₀ .tc) α} :
    (((c : Thread nD τ).loc cc0_stg1_0) ↦{fullShare} T)
      ⊢ iprop(((((c : Thread nD τ).loc cc0_stg1_0) ↦{fullShare} T) -∗ Runs c (k (slab T s)) Q)
        -∗ Runs c (.op (.load tabM (Rect.unit (s := S4096x512) o S1024x512.size hb).toLoadRect hl) k) Q) := by
  subst ho
  exact wp_load 𝒱₀ (c : Thread nD τ) none Set.univ (m := tabM) (Finset.subset_univ _)

/-- A load of a send slot whose value is not used. -/
theorem load_snd {α : Type} {Q : α → sProp 𝕄} (k : Fin 4) {o : Fin 3 → ℕ} (ho : o = ![k.val, 0, 0])
    {hb : ∀ a, o a + S1x128x512.size a ≤ S4x128x512.size a}
    {hl : sndM.view.LoadsAt (Rect.unit (s := S4x128x512) o S1x128x512.size hb).toLoadRect}
    {p : Prog (TpuEff nD τ sig (Elt F) Λ₀ .tc) α} :
    (sndAny c k : sProp 𝕄) ⊢ iprop((sndAny c k -∗ Runs c p Q)
        -∗ Runs c (.op (.load sndM (Rect.unit (s := S4x128x512) o S1x128x512.size hb).toLoadRect hl) fun _ => p) Q) := by
  subst ho
  unfold sndAny
  iintro ⟨%f, H⟩ Hk
  iapply (wp_load_rect 𝒱₀ (c : Thread nD τ) none Set.univ (m := sndM) (r := slot k) (Finset.Subset.refl _)) $$ H
  iintro H
  iapply Hk
  iexists f; iexact H

theorem store_snd {α : Type} {Q : α → sProp 𝕄} (k : Fin 4) {o : Fin 3 → ℕ} (ho : o = ![k.val, 0, 0])
    {hb : ∀ a, o a + S1x128x512.size a ≤ S4x128x512.size a} {w : FVec F S1x128x512 .bf16}
    {hx : (sndM.access (Rect.unit (s := S4x128x512) o S1x128x512.size hb)).Stores Finset.univ}
    {hm : (Finset.univ : Finset S1x128x512.Idx) = Finset.univ ∨ ∀ a, (Rect.unit (s := S4x128x512) o S1x128x512.size hb).stride a = 1}
    {f : PUnit → Prog (TpuEff nD τ sig (Elt F) Λ₀ .tc) α} :
    (sndAny c k : sProp 𝕄) ⊢ iprop((sndHeld c k w -∗ Runs c (f ⟨⟩) Q)
        -∗ Runs c (.op (.store sndM (Rect.unit (s := S4x128x512) o S1x128x512.size hb) w Finset.univ hx hm) f) Q) := by
  subst ho
  unfold sndAny sndHeld
  iintro ⟨%f, H⟩ Hk
  iapply (wp_store 𝒱₀ (c : Thread nD τ) none Set.univ (m := sndM) (r := slot k) (Mk := Finset.univ)
    (by rw [View.setOn_univ])) $$ H
  iintro H
  iapply Hk
  iexists ((sndM.access (slot k)).write (Elt F) f w Finset.univ)
  isplitr; · ipureintro; exact read_stored k f w
  iexact H

/-- The load of a filled receive slot. -/
theorem load_rcv {α : Type} {Q : α → sProp 𝕄} (k : Fin 4) {o : Fin 3 → ℕ} (ho : o = ![k.val, 0, 0]) (p : FVec F S1x128x512 .bf16)
    {hb : ∀ a, o a + S1x128x512.size a ≤ S4x128x512.size a}
    {hl : rcvM.view.LoadsAt (Rect.unit (s := S4x128x512) o S1x128x512.size hb).toLoadRect}
    {f : Vec F S1x128x512 .bf16 → Prog (TpuEff nD τ sig (Elt F) Λ₀ .tc) α} :
    (rcvHeld c k p : sProp 𝕄) ⊢ iprop((rcvHeld c k p -∗ Runs c (f p) Q)
        -∗ Runs c (.op (.load rcvM (Rect.unit (s := S4x128x512) o S1x128x512.size hb).toLoadRect hl) f) Q) := by
  subst ho
  unfold rcvHeld
  iintro ⟨%g, %hg, H⟩ Hk
  iapply (wp_load_rect 𝒱₀ (c : Thread nD τ) none Set.univ (m := rcvM) (r := slot k) (Finset.Subset.refl _)) $$ H
  iintro H
  rw [hg]
  iapply Hk
  iexists g
  isplitr; · ipureintro; exact hg
  iexact H

/-- The output: a load whose value is not used, then a store of row block `k`. -/
theorem store_rows {α : Type} {Q : α → sProp 𝕄} (k : Fin 4) {o : Fin 2 → ℕ} (ho : o = ![128 * k.val, 0])
    {g : Buf (Elt F) ((c : Thread nD τ).loc cc0_stg2_0)}
    {hb : ∀ a, o a + S128x512.size a ≤ S512x512.size a} {w : FVec F S128x512 .f32}
    {hl : outM.view.LoadsAt (Rect.unit (s := S512x512) o S128x512.size hb).toLoadRect}
    {hx : (outM.access (Rect.unit (s := S512x512) o S128x512.size hb)).Stores Finset.univ}
    {hm : (Finset.univ : Finset S128x512.Idx) = Finset.univ ∨ ∀ a, (Rect.unit (s := S512x512) o S128x512.size hb).stride a = 1}
    {f : PUnit → Prog (TpuEff nD τ sig (Elt F) Λ₀ .tc) α} :
    (((c : Thread nD τ).loc cc0_stg2_0) ↦{fullShare} g)
      ⊢ iprop(((((c : Thread nD τ).loc cc0_stg2_0) ↦{fullShare} ((outM.access (rows k)).write (Elt F) g w Finset.univ))
            -∗ Runs c (f ⟨⟩) Q)
        -∗ Runs c (.op (.load outM (Rect.unit (s := S512x512) o S128x512.size hb).toLoadRect hl) fun _ =>
            .op (.store outM (Rect.unit (s := S512x512) o S128x512.size hb) w Finset.univ hx hm) f) Q) := by
  subst ho
  iintro H Hk
  iapply (wp_load 𝒱₀ (c : Thread nD τ) none Set.univ (m := outM) (Finset.subset_univ _)) $$ H
  iintro H
  iapply (wp_store 𝒱₀ (c : Thread nD τ) none Set.univ (m := outM) (r := rows k) (Mk := Finset.univ) (Finset.subset_univ _)) $$ H
  iintro H
  iapply Hk
  iexact H

end Cert.KernelIdealProof

end
-- ==== Proof.KernelIdeal.Body.lean ====
/-
# The body of the lookup kernel

The body run from its precondition, one rule an operation in program order: the signal and the barrier wait, four chunks
looked up, stored and sent, four arrivals added to the own chunks and stored, four waits for the sends.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fin_N (t : Fin cfg0.N) : t = (⟨0, by decide⟩ : Fin cfg0.N) := Fin.ext (by have := t.isLt; have h : cfg0.N = 1 := rfl; omega)
abbrev t₀ : Fin cfg0.N := ⟨0, by decide⟩

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem read_ids (f : (cc0_stg0_0 : Ref sig .tc).ty.Contents (Elt F)) :
    idsM.view.readAt (Elt F) (Rect.unit (s := S512) ![0] S512.size inb_S512_S512_0).toLoadRect f = f :=
  Memref.readAt_unit_zero (Elt F) cc0_stg0_0 (funext fun a => by fin_cases a; rfl) _ f

def bodyPre (K : Dev nD × Cell → ℕ) (c : Dev nD) : sProp 𝕄 :=
  iprop((ghost m K c ∗ claims c ∗ levAts L lv ∗ slots c)
    ∗ (dats m ρ 0 c).owesAt () t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))

def bodyPost (c : Dev nD) : sProp 𝕄 :=
  iprop(Φ₁ c ∗ (dats m ρ 0 c).owesAt () t₀.succ ∗ staged c cc0_stg0_0 (idsAt m c) ∗ staged c cc0_stg1_0 (tabAt m c)
    ∗ staged c cc0_stg2_0 (outAt m c))

omit [FloatOps F] in
/-- Once everything is sent, any semaphore may be waited for. -/
theorem mayWait_end (c : Dev nD) (κ : Cell) : (levAts L lv : sProp 𝕄) ⊢ MayWait (c : Thread nD τ) (csem κ) () (rest c 4) := by
  rw [rest_end, MayWait_zero]; iintro -; iempintro

/-- The call of the body. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3

set_option maxHeartbeats 4000000 in
theorem sound_body (K : Dev nD × Cell → ℕ) (c : Dev nD) (Kt : PUnit → sProp 𝕄) :
    iprop(bodyPre m ρ K c ∗ (bodyPost m ρ c -∗ Kt ⟨⟩)) ⊢ Runs c theBody Kt := by
  unfold theBody
  rw [cc0_body_eq_skeleton]; unfold cc0_body_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton]
  unfold k0_part1_skel k0_part2_skel k0_part3_skel k0_part4_skel k0_part5_skel k0_part6_skel k0_part7_skel
    k0_part8_skel k0_part9_skel k0_part10_skel
  simp only [semSignalWord, semWaitWord, Prog.lift, Prog.bind_op, Prog.bind_ret, Prog.pure_eq_ret, wp_deviceId]
  unfold bodyPre ghost claims places payToks slots
  rw [bigSep_cells, bigSep_cells, bigSep_four, bigSep_four, bigSep_four]
  iintro ⟨⟨⟨⟨#HR, ⟨HaB, HaS0, HaS1, HaS2, HaS3, HaV0, HaV1, HaV2, HaV3⟩, ⟨HtB, HtS0, HtS1, HtS2, HtS3, HtV0, HtV1, HtV2, HtV3⟩⟩,
    ⟨HcB, HcV0, HcV1, HcV2, HcV3⟩, #Hlev, ⟨⟨Hs0, Hs1, Hs2, Hs3⟩, Hrs⟩⟩,
    Ho, ⟨%d0, %g0, %hg0, Hids⟩, ⟨%d1, %g1, %hg1, Htab⟩, ⟨%d2, %g2, %hg2, Hout⟩⟩, Hk⟩
  have hi : g0 = idsAt m c := by rw [hg0]; unfold Dat.before; rw [if_pos (fetch_0 t₀)]; rfl
  have ht : g1 = tabAt m c := by rw [hg1]; unfold Dat.before; rw [if_pos (fetch_1 t₀)]; rfl
  subst hi
  subst ht
  unfold Dat.owesAt Pipeline.owesWithin
  icases Ho with ⟨%W, %hW, HO⟩
  rw [show (dats m ρ 0 c).owed t₀.castSucc = O₀ c from rfl]
  ihave HO : due c (O₀ c) $$ [HO]
  · unfold due; iexists W; iexact HO
  -- the signal and the barrier wait
  iapply (step_signal m K c (dev1_eq c)) $$ [HO HtB Hrs]
  · isplitr; · iexact HR
    isplitl [HO]; · iexact HO
    isplitl [HtB]; · iexact HtB
    iexact Hrs
  iintro HO
  iapply (step_wait m K c barC (rest c 0) (wpE_semWait_eq 𝒱₀ (c : Thread nD τ) none Set.univ) rfl (mayWait_bar c)) $$ [HcB HO HaB]
  · isplitr; · iexact HR
    isplitr; · iexact Hlev
    isplitl [HcB]; · iexact HcB
    isplitl [HO]; · iexact HO
    iexact HaB
  iintro ⟨HO, HaB, ⟨Hr0, Hr1, Hr2, Hr3⟩⟩
  -- the four chunks: looked up, stored, sent
  iapply (wp_load 𝒱₀ (c : Thread nD τ) none Set.univ (m := idsM) (Finset.subset_univ _)) $$ Hids; iintro Hids
  rw [read_ids]
  iapply (load_slab c 0 (o := ![0, 0]) rfl) $$ Htab; iintro Htab
  iapply (load_slab c 1 (o := ![1024, 0]) rfl) $$ Htab; iintro Htab
  iapply (load_slab c 2 (o := ![2048, 0]) rfl) $$ Htab; iintro Htab
  iapply (load_slab c 3 (o := ![3072, 0]) rfl) $$ Htab; iintro Htab
  iapply (load_snd c 0 (o := ![0, 0, 0]) rfl) $$ Hs0; iintro Hs0
  iapply (store_snd c 0 (o := ![0, 0, 0]) rfl) $$ Hs0; iintro Hs0
  rw [acc_0, part_0]
  iapply (step_send m K c 0 (dev2_eq c)) $$ [Hs0 Hr0 HO HtS0 HtV0]
  · isplitr; · iexact HR
    isplitl [Hs0]; · iexact Hs0
    isplitl [Hr0]; · iexact Hr0
    isplitl [HO]; · iexact HO
    isplitl [HtS0] <;> iassumption
  iintro ⟨HcS0, HO⟩
  iapply (load_slab c 0 (o := ![0, 0]) rfl) $$ Htab; iintro Htab
  iapply (load_slab c 1 (o := ![1024, 0]) rfl) $$ Htab; iintro Htab
  iapply (load_slab c 2 (o := ![2048, 0]) rfl) $$ Htab; iintro Htab
  iapply (load_slab c 3 (o := ![3072, 0]) rfl) $$ Htab; iintro Htab
  iapply (load_snd c 1 (o := ![1, 0, 0]) rfl) $$ Hs1; iintro Hs1
  iapply (store_snd c 1 (o := ![1, 0, 0]) rfl) $$ Hs1; iintro Hs1
  rw [acc_1, part_1]
  iapply (step_send m K c 1 (dev3_eq c)) $$ [Hs1 Hr1 HO HtS1 HtV1]
  · isplitr; · iexact HR
    isplitl [Hs1]; · iexact Hs1
    isplitl [Hr1]; · iexact Hr1
    isplitl [HO]; · iexact HO
    isplitl [HtS1] <;> iassumption
  iintro ⟨HcS1, HO⟩
  iapply (load_slab c 0 (o := ![0, 0]) rfl) $$ Htab; iintro Htab
  iapply (load_slab c 1 (o := ![1024, 0]) rfl) $$ Htab; iintro Htab
  iapply (load_slab c 2 (o := ![2048, 0]) rfl) $$ Htab; iintro Htab
  iapply (load_slab c 3 (o := ![3072, 0]) rfl) $$ Htab; iintro Htab
  iapply (load_snd c 2 (o := ![2, 0, 0]) rfl) $$ Hs2; iintro Hs2
  iapply (store_snd c 2 (o := ![2, 0, 0]) rfl) $$ Hs2; iintro Hs2
  rw [acc_2, part_2]
  iapply (step_send m K c 2 (dev4_eq c)) $$ [Hs2 Hr2 HO HtS2 HtV2]
  · isplitr; · iexact HR
    isplitl [Hs2]; · iexact Hs2
    isplitl [Hr2]; · iexact Hr2
    isplitl [HO]; · iexact HO
    isplitl [HtS2] <;> iassumption
  iintro ⟨HcS2, HO⟩
  iapply (load_slab c 0 (o := ![0, 0]) rfl) $$ Htab; iintro Htab
  iapply (load_slab c 1 (o := ![1024, 0]) rfl) $$ Htab; iintro Htab
  iapply (load_slab c 2 (o := ![2048, 0]) rfl) $$ Htab; iintro Htab
  iapply (load_slab c 3 (o := ![3072, 0]) rfl) $$ Htab; iintro Htab
  iapply (load_snd c 3 (o := ![3, 0, 0]) rfl) $$ Hs3; iintro Hs3
  iapply (store_snd c 3 (o := ![3, 0, 0]) rfl) $$ Hs3; iintro Hs3
  rw [acc_3, part_3]
  iapply (step_send m K c 3 (dev5_eq c)) $$ [Hs3 Hr3 HO HtS3 HtV3]
  · isplitr; · iexact HR
    isplitl [Hs3]; · iexact Hs3
    isplitl [Hr3]; · iexact Hr3
    isplitl [HO]; · iexact HO
    isplitl [HtS3] <;> iassumption
  iintro ⟨HcS3, HO⟩
  -- the four arrivals: added to the own chunks, stored in the output
  iapply (step_wait m K c (rcvC 0) (rest c 4) (wpE_waitDma2_eq 𝒱₀ (c : Thread nD τ) none Set.univ) (by rfl) (mayWait_end c (rcvC 0))) $$ [HcV0 HO HaV0]
  · isplitr; · iexact HR
    isplitr; · iexact Hlev
    isplitl [HcV0]; · iexact HcV0
    isplitl [HO]; · iexact HO
    iexact HaV0
  iintro ⟨HO, HaV0, Hv0⟩
  iapply (load_rcv c 0 (o := ![0, 0, 0]) rfl (partAt m (peer c) 0)) $$ Hv0; iintro Hv0
  rw [joined_0]
  iapply (store_rows c 0 (o := ![0, 0]) rfl) $$ Hout; iintro Hout
  iapply (step_wait m K c (rcvC 1) (rest c 4) (wpE_waitDma2_eq 𝒱₀ (c : Thread nD τ) none Set.univ) (by rfl) (mayWait_end c (rcvC 1))) $$ [HcV1 HO HaV1]
  · isplitr; · iexact HR
    isplitr; · iexact Hlev
    isplitl [HcV1]; · iexact HcV1
    isplitl [HO]; · iexact HO
    iexact HaV1
  iintro ⟨HO, HaV1, Hv1⟩
  iapply (load_rcv c 1 (o := ![1, 0, 0]) rfl (partAt m (peer c) 1)) $$ Hv1; iintro Hv1
  rw [joined_1]
  iapply (store_rows c 1 (o := ![128, 0]) rfl) $$ Hout; iintro Hout
  iapply (step_wait m K c (rcvC 2) (rest c 4) (wpE_waitDma2_eq 𝒱₀ (c : Thread nD τ) none Set.univ) (by rfl) (mayWait_end c (rcvC 2))) $$ [HcV2 HO HaV2]
  · isplitr; · iexact HR
    isplitr; · iexact Hlev
    isplitl [HcV2]; · iexact HcV2
    isplitl [HO]; · iexact HO
    iexact HaV2
  iintro ⟨HO, HaV2, Hv2⟩
  iapply (load_rcv c 2 (o := ![2, 0, 0]) rfl (partAt m (peer c) 2)) $$ Hv2; iintro Hv2
  rw [joined_2]
  iapply (store_rows c 2 (o := ![256, 0]) rfl) $$ Hout; iintro Hout
  iapply (step_wait m K c (rcvC 3) (rest c 4) (wpE_waitDma2_eq 𝒱₀ (c : Thread nD τ) none Set.univ) (by rfl) (mayWait_end c (rcvC 3))) $$ [HcV3 HO HaV3]
  · isplitr; · iexact HR
    isplitr; · iexact Hlev
    isplitl [HcV3]; · iexact HcV3
    isplitl [HO]; · iexact HO
    iexact HaV3
  iintro ⟨HO, HaV3, Hv3⟩
  iapply (load_rcv c 3 (o := ![3, 0, 0]) rfl (partAt m (peer c) 3)) $$ Hv3; iintro Hv3
  rw [joined_3]
  iapply (store_rows c 3 (o := ![384, 0]) rfl) $$ Hout; iintro Hout
  -- the four sends
  iapply (step_wait m K c (sndC 0) (rest c 4) (wpE_waitDma2_eq 𝒱₀ (c : Thread nD τ) none Set.univ) (by rfl) (mayWait_end c (sndC 0))) $$ [HcS0 HO HaS0]
  · isplitr; · iexact HR
    isplitr; · iexact Hlev
    isplitl [HcS0]; · iexact HcS0
    isplitl [HO]; · iexact HO
    iexact HaS0
  iintro ⟨HO, HaS0, Hs0⟩
  iapply (step_wait m K c (sndC 1) (rest c 4) (wpE_waitDma2_eq 𝒱₀ (c : Thread nD τ) none Set.univ) (by rfl) (mayWait_end c (sndC 1))) $$ [HcS1 HO HaS1]
  · isplitr; · iexact HR
    isplitr; · iexact Hlev
    isplitl [HcS1]; · iexact HcS1
    isplitl [HO]; · iexact HO
    iexact HaS1
  iintro ⟨HO, HaS1, Hs1⟩
  iapply (step_wait m K c (sndC 2) (rest c 4) (wpE_waitDma2_eq 𝒱₀ (c : Thread nD τ) none Set.univ) (by rfl) (mayWait_end c (sndC 2))) $$ [HcS2 HO HaS2]
  · isplitr; · iexact HR
    isplitr; · iexact Hlev
    isplitl [HcS2]; · iexact HcS2
    isplitl [HO]; · iexact HO
    iexact HaS2
  iintro ⟨HO, HaS2, Hs2⟩
  iapply (step_wait m K c (sndC 3) (rest c 4) (wpE_waitDma2_eq 𝒱₀ (c : Thread nD τ) none Set.univ) (by rfl) (mayWait_end c (sndC 3))) $$ [HcS3 HO HaS3]
  · isplitr; · iexact HR
    isplitr; · iexact Hlev
    isplitl [HcS3]; · iexact HcS3
    isplitl [HO]; · iexact HO
    iexact HaS3
  iintro ⟨HO, HaS3, Hs3⟩
  imod (close_all m K c) $$ [HaB HaS0 HaS1 HaS2 HaS3 HaV0 HaV1 HaV2 HaV3] with Hz
  · isplitr; · iexact HR
    rw [bigSep_cells]
    isplitl [HaB]; · iexact HaB
    isplitl [HaS0]; · iexact HaS0
    isplitl [HaS1]; · iexact HaS1
    isplitl [HaS2]; · iexact HaS2
    isplitl [HaS3]; · iexact HaS3
    isplitl [HaV0]; · iexact HaV0
    isplitl [HaV1]; · iexact HaV1
    isplitl [HaV2] <;> iassumption
  rw [wp_ret]; imodintro
  iapply Hk
  unfold bodyPost Φ₁ slots Dat.owesAt Pipeline.owesWithin due
  rw [show (dats m ρ 0 c).owed t₀.succ = 0 from rfl, rest_end, bigSep_four, bigSep_four]
  icases HO with ⟨%W', HO⟩
  isplitl [Hs0 Hs1 Hs2 Hs3 Hv0 Hv1 Hv2 Hv3 Hz]
  · isplitr [Hz]
    · isplitl [Hs0 Hs1 Hs2 Hs3]
      · isplitl [Hs0]; · iexact Hs0
        isplitl [Hs1]; · iexact Hs1
        isplitl [Hs2] <;> iassumption
      isplitl [Hv0]; · iapply (rcvHeld_any c 0 _); iexact Hv0
      isplitl [Hv1]; · iapply (rcvHeld_any c 1 _); iexact Hv1
      isplitl [Hv2]; · iapply (rcvHeld_any c 2 _); iexact Hv2
      iapply (rcvHeld_any c 3 _); iexact Hv3
    iexact Hz
  isplitl [HO]
  · iexists W'
    isplitr; · ipureintro; exact fun _ _ => Or.inl trivial
    iexact HO
  isplitl [Hids]
  · iexists _; isplitr; · (ipureintro; rfl)
    iexact Hids
  isplitl [Htab]
  · iexists _; isplitr; · (ipureintro; rfl)
    iexact Htab
  iexists (stores g2 fun k => joined (accAt m c k) (partAt m (peer c) k))
  isplitr; · ipureintro; exact stores_congr _ _ _
  iexact Hout

end Cert.KernelIdealProof

end
-- ==== Proof.KernelIdeal.Launch.lean ====
/-
# The launch

The library's obligation for the body, the ghost state at launch — every device's nine semaphores under their
invariants, the rights to raise them dealt to the devices that do — and the run of the whole program from any memory.
-/
module

public import proofs.«01_k».proof.Proof.KernelIdeal.Body
public import Idealize.ShloMosaic.Lib.Ring
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

set_option maxRecDepth 4000 in
def entry (c : Dev nD) : sProp 𝕄 :=
  iprop(Φ₀ m c ∗ (dats m ρ 0 c).owesAt () t₀.castSucc
    ∗ (∃ d, staged c cc0_stg0_0 ((dats m ρ 0 c).before (0 : Fin 3) t₀ d))
    ∗ (∃ d, staged c cc0_stg1_0 ((dats m ρ 0 c).before (1 : Fin 3) t₀ d))
    ∗ (∃ d, staged c cc0_stg2_0 ((dats m ρ 0 c).before (2 : Fin 3) t₀ d)))

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show entry m ρ c ⊢ Runs c theBody (fun _ => bodyPost m ρ c)
  unfold entry Φ₀ start
  iintro ⟨⟨⟨⟨%K, Hg⟩, Hc, Hl⟩, Hs⟩, Ho, Hi, Ht, Hout⟩
  iapply (sound_body m ρ K c fun _ => bodyPost m ρ c)
  unfold bodyPre
  isplitr []
  · isplitl [Hg Hc Hl Hs]
    · isplitl [Hg]; · iexact Hg
      isplitl [Hc]; · iexact Hc
      isplitl [Hl] <;> iassumption
    isplitl [Ho]; · iexact Ho
    isplitl [Hi]; · iexact Hi
    isplitl [Ht] <;> iassumption
  · iintro H; iexact H

/-! ## The ghost state at launch -/

theorem ownSemFacts : Pipeline.OwnSemFacts cfg0.spec osem := by decide

theorem share_eq (c : Dev nD) (w : Fin cfg0.W) : (dats m ρ 0 c).share w = fullShare := by unfold Dat.share; split <;> rfl

/-- The cells of the exchange and the one token of each. -/
def cellEmb : Dev nD × Cell ↪ GSem nD τ sig := ⟨fun x => cell x.1 x.2, cell_injective⟩
def xCells : Finset (GSem nD τ sig) := Finset.univ.map cellEmb
def xToks : Finset (GSem nD τ sig × ℕ × Unit) :=
  Finset.univ.map ⟨fun x : Dev nD × Cell => (cell x.1 x.2, 0, ()), fun x y h => cell_injective (congrArg Prod.fst h)⟩

def u₀ : UU :=
  (initOf (Pipeline.cells cfgs cellOf_inj) (Pipeline.launchToks cfgs cellOf_inj), initOf xCells xToks)

/-- The rights to raise device `c`'s own nine semaphores. -/
def toks (c : Dev nD) : sProp 𝕄 := bigSep Finset.univ fun κ : Cell => dutyTok ER (cell c κ) 0 ()
def marks (c : Dev nD) : sProp 𝕄 := bigSep Finset.univ fun κ : Cell => reached ER (cell c κ) 0

def G (c : Dev nD) : sProp 𝕄 :=
  iprop((bigSep Finset.univ fun κ : Cell => roundState ER (sched m) (cell c κ) 0) ∗ places c ∗ marks c ∗ toks c)
def G' (c : Dev nD) : sProp 𝕄 := iprop(∃ K, ghost m K c)

theorem fund_exchange : BI.own (ER (initOf xCells xToks)) ⊢ (|==> bigSep Finset.univ (G m) : sProp 𝕄) := by
  have hX (Φ : GSem nD τ sig → sProp 𝕄) : bigSep xCells Φ
      = bigSep Finset.univ fun c : Dev nD => bigSep Finset.univ fun κ : Cell => Φ (cell c κ) := by
    unfold xCells; rw [bigSep_map, bigSep_univ_prod]; rfl
  have hT : bigSep xToks (fun x => (dutyTok ER x.1 x.2.1 x.2.2 : sProp 𝕄)) = bigSep Finset.univ fun c : Dev nD => toks c := by
    unfold xToks toks; rw [bigSep_map, bigSep_univ_prod]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places marks; simp only [bigSep_sep']
  isplitl [Hst']; · iexact Hst'
  isplitl [Hat']; · iexact Hat'
  isplitl [Hr'] <;> iassumption

omit [FloatOps F] in
theorem unscopedSems0_eq (c : Dev nD) : (unscopedSems0 c : sProp 𝕄) = semVal (cell c barC) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = iprop(semVal (cell c (sndC 0)) 0 ∗ semVal (cell c (sndC 1)) 0 ∗ semVal (cell c (sndC 2)) 0 ∗ semVal (cell c (sndC 3)) 0
      ∗ semVal (cell c (rcvC 0)) 0 ∗ semVal (cell c (rcvC 1)) 0 ∗ semVal (cell c (rcvC 2)) 0 ∗ semVal (cell c (rcvC 3)) 0) := by
  rw [Pipeline.ownSems0_eq_of_list c osem [(false, 0), (false, 1), (false, 2), (false, 3), (true, 0), (true, 1), (true, 2), (true, 3)]
    (by decide) (by decide)]; rfl

omit [FloatOps F] in
/-- The barrier semaphore and the kernel's own eight are the nine. -/
theorem sems_eq (c : Dev nD) :
    iprop(unscopedSems0 c ∗ Pipeline.ownSems0 (Ix := Unit) (Name := ℕ) (U := UU) (Lvl := ℕ) (Val := Elt F) (τ := τ) osem c)
      = (bigSep Finset.univ fun κ : Cell => semVal (cell c κ) 0 : sProp 𝕄) := by
  rw [ownSems0_eq, unscopedSems0_eq, bigSep_cells]

/-- Device `c`'s nine semaphores put under their invariants. -/
theorem allocate (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun κ : Cell => iprop(∃ i : ℕ, cellInv ER (sched m) i (cell c κ)))
          ∗ places c ∗ marks c ∗ toks c) := by
  unfold G
  iintro ⟨Hos, Hus, Hst, Hrest⟩
  ihave Hv := (Entails.of_eq (sems_eq (F := F) c)) $$ [Hos Hus]
  · isplitl [Hus] <;> iassumption
  imod (show iprop((bigSep Finset.univ fun κ : Cell => semVal (cell c κ) 0) ∗ bigSep Finset.univ fun κ : Cell => roundState ER (sched m) (cell c κ) 0)
      ⊢ (|={Set.univ}=> bigSep Finset.univ fun κ : Cell => iprop(∃ i : ℕ, cellInv ER (sched m) i (cell c κ)) : sProp 𝕄) from by
        rw [← bigSep_sep']
        exact (bigSep_mono fun κ _ => (Rounds.body_intro ER (sched m) (cell c κ)).trans inv_alloc).trans (bigSep_fupd _ _)) $$ [Hv Hst] with Hinv
  · isplitl [Hv] <;> iassumption
  imodintro
  isplitl [Hinv]; · iexact Hinv
  iexact Hrest

/-- Who raises which semaphore, as a permutation of the semaphores. -/
def payees : Dev nD × Cell ≃ Dev nD × Cell where
  toFun x := (payee x.1 x.2, x.2)
  invFun x := (payee x.1 x.2, x.2)
  left_inv x := Prod.ext (payee_payee x.1 x.2) rfl
  right_inv x := Prod.ext (payee_payee x.1 x.2) rfl

/-- The rights dealt to the devices that use them. -/
theorem toks_dealt : (bigSep Finset.univ fun c : Dev nD => (toks c : sProp 𝕄)) = bigSep Finset.univ fun c : Dev nD => payToks c := by
  unfold toks payToks
  rw [← bigSep_univ_prod (fun x : Dev nD × Cell => (dutyTok ER (cell x.1 x.2) 0 () : sProp 𝕄)),
    ← bigSep_univ_prod (fun x : Dev nD × Cell => (dutyTok ER (cell (payee x.1 x.2) x.2) 0 () : sProp 𝕄)),
    bigSep_univ_equiv payees (fun x : Dev nD × Cell => (dutyTok ER (cell x.1 x.2) 0 () : sProp 𝕄))]
  rfl

theorem ghost_intro (K : Dev nD × Cell → ℕ) (c : Dev nD) : iprop(records m K ∗ places c ∗ payToks c) ⊢ G' m c := by
  unfold G' ghost
  iintro H; iexists K; iexact H

theorem deal :
    (bigSep Finset.univ fun c : Dev nD => iprop((bigSep Finset.univ fun κ : Cell => iprop(∃ i : ℕ, cellInv ER (sched m) i (cell c κ)))
        ∗ places c ∗ marks c ∗ toks c) : sProp 𝕄)
      ⊢ bigSep Finset.univ (G' m) := by
  unfold marks
  rw [bigSep_sep', bigSep_sep', bigSep_sep', toks_dealt,
    ← bigSep_univ_prod (fun x : Dev nD × Cell => iprop(∃ i : ℕ, cellInv ER (sched m) i (cell x.1 x.2))),
    ← bigSep_univ_prod (fun x : Dev nD × Cell => (reached ER (cell x.1 x.2) 0 : sProp 𝕄))]
  iintro ⟨HI, Hat, HR, Htok⟩
  ihave HK := (BI.bigSep_exists_pi Finset.univ
    (fun (x : Dev nD × Cell) (i : ℕ) => (cellInv ER (sched m) i (cell x.1 x.2) : sProp 𝕄))) $$ HI
  icases HK with ⟨%K, HI⟩
  iapply (show iprop(records m K ∗ bigSep Finset.univ fun c : Dev nD => iprop(places c ∗ payToks c)) ⊢ bigSep Finset.univ (G' m) from
    (sep_mono_left (BI.bigSep_of_persistent (Finset.univ : Finset (Dev nD)) (records m K))).trans (by
      rw [← bigSep_sep']
      exact bigSep_mono fun c _ => ghost_intro m K c))
  isplitl [HI HR]
  · unfold records; isplitl [HI] <;> iassumption
  rw [bigSep_sep']
  isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => allocate m c).trans (bigSep_fupd _ _)).trans (BI.fupd_mono (deal m))

/-! ## The claims at launch -/

theorem peer_eq_iff {c d : Dev nD} : c = peer d ↔ d = peer c :=
  ⟨fun h => by rw [h, peer_peer], fun h => by rw [h, peer_peer]⟩

theorem rest_ne_rcv (d c : Dev nD) (n : ℕ) : rest d n (cell c barC) () = 0 := by
  rw [rest_apply]
  refine Finset.sum_eq_zero fun k _ => if_neg fun h => ?_
  have := (cell_eq_iff.mp h.1).2
  cases this

theorem tally_cell (d c : Dev nD) (κ : Cell) (n : ℕ) :
    (tallyAt (cell (peer d) κ) () n : CellTallies nD τ sig Unit) (cell c κ) () = if d = peer c then n else 0 := by
  rw [tallyAt_apply]
  exact if_congr ((and_iff_left rfl).trans (cell_eq_iff.trans ((and_iff_left rfl).trans peer_eq_iff))) rfl rfl

/-- Only its partner owes a device anything: a unit on the barrier, a chunk on each receive semaphore. -/
theorem owed_bar (d c : Dev nD) : O₀ d (cell c barC) () = if d = peer c then 1 else 0 := by
  unfold O₀
  rw [Pi.add_apply, Finsupp.add_apply, rest_ne_rcv, zero_add, tally_cell]

theorem owed_rcv (d c : Dev nD) (k : Fin 4) : O₀ d (cell c (rcvC k)) () = if d = peer c then N else 0 := by
  have hb : cell c (rcvC k) ≠ cell (peer d) barC := fun h => by have := (cell_eq_iff.mp h).2; cases this
  have hj : ∀ j : Fin 4, j ≠ k → cell c (rcvC k) ≠ cell (peer d) (rcvC j) := fun j hj h =>
    hj (by have := (cell_eq_iff.mp h).2; injection this with h; injection h with _ h; exact h.symm)
  unfold O₀
  rw [Pi.add_apply, Finsupp.add_apply, tallyAt_ne_cell hb, Finsupp.zero_apply, add_zero]
  unfold rest
  rw [tally_sum_apply, Finset.sum_eq_single_of_mem k (Finset.mem_filter.mpr ⟨Finset.mem_univ k, Nat.zero_le _⟩)
    (fun j _ h => by rw [tallyAt_ne_cell (hj j h), Finsupp.zero_apply]), tally_cell]

theorem launch_cell (c : Dev nD) (κ : Cell) (n : ℕ) (h : ∀ d, O₀ d (cell c κ) () = if d = peer c then n else 0) :
    tallyOn (cell c κ) (launchCredit (Pipeline.owing O₀) 0 (cell c κ)) = (tallyAt (cell c κ) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peer c) fun _ => n, if_pos (Finset.mem_univ _)]

omit [FloatOps F] in
theorem claims_intro (c : Dev nD) : (Pipeline.launchCred O₀ c : sProp 𝕄) ⊢ claims c := by
  unfold Pipeline.launchCred claims
  rw [bigSep_univ_at _ (SemLoc.reg barS), launch_cell c barC 1 (fun d => owed_bar d c)]
  refine sep_mono_right ?_
  have hN : ∀ k : Fin 4, (cred (tallyAt (cell c (rcvC k)) () N) : sProp 𝕄)
      = cred (tallyOn (cell c (rcvC k)) (launchCredit (Pipeline.owing O₀) 0 (cell c (rcvC k)))) :=
    fun k => by rw [launch_cell c (rcvC k) N fun d => owed_rcv d c k]
  have hs : (Finset.univ.map ⟨fun k : Fin 4 => csem (rcvC k), fun k l h => by
      have := csem_injective h; injection this with h; injection h⟩ : Finset (SemLoc sig)) ⊆ Finset.univ.erase (SemLoc.reg barS) := by
    intro x hx
    obtain ⟨k, -, rfl⟩ := Finset.mem_map.mp hx
    exact Finset.mem_erase.mpr ⟨fun h => (by have := csem_injective (a₁ := rcvC k) (a₂ := barC) h; cases this), Finset.mem_univ _⟩
  refine (bigSep_subset hs).trans ?_
  rw [bigSep_map]
  exact bigSep_mono fun k _ => BIBase.Entails.of_eq (hN k).symm

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (claims_intro (F := F) c) $$ Hcr
  imodintro
  unfold start G'
  isplitl
  · isplitl [HG]; · iexact HG
    isplitl [Hc] <;> iassumption
  · iempintro

theorem snd_any (c : Dev nD) (k : Fin 4) (f : Buf (Elt F) ((c : Thread nD τ).loc cc0_scratch0)) :
    (((c : Thread nD τ).loc cc0_scratch0) ↦[(sndM.access (slot k)).set]{fullShare} f : sProp 𝕄) ⊢ sndAny c k := by
  unfold sndAny; iintro H; iexists f; iexact H
theorem rcv_any (c : Dev nD) (k : Fin 4) (f : Buf (Elt F) ((c : Thread nD τ).loc cc0_scratch1)) :
    (((c : Thread nD τ).loc cc0_scratch1) ↦[(rcvM.access (slot k)).set]{fullShare} f : sProp 𝕄) ⊢ rcvAny c k := by
  unfold rcvAny; iintro H; iexists f; iexact H

/-! The two exchange buffers are their slots. -/

/-- The elements of slot `k` of the send buffer. -/
abbrev sndI (c : Dev nD) (k : Fin 4) : Finset (Idx ((c : Thread nD τ).loc cc0_scratch0)) := (sndM.access (slot k)).set
theorem snd_disjoint (c : Dev nD) (k l : Fin 4) (h : k ≠ l) : Disjoint (sndI c k) (sndI c l) := by
  have hd := slots_disjoint k l h
  rw [← snd_set, ← snd_set] at hd
  exact hd
theorem snd_cover (c : Dev nD) : Finset.univ.biUnion (sndI c) = Finset.univ := by
  have hc := slots_cover
  simp only [← snd_set] at hc
  exact hc

theorem snd_weaken (c : Dev nD) (f : Buf (Elt F) ((c : Thread nD τ).loc cc0_scratch0)) :
    (bigSep Finset.univ fun k : Fin 4 => (((c : Thread nD τ).loc cc0_scratch0) ↦[sndI c k]{fullShare} f) : sProp 𝕄)
      ⊢ bigSep Finset.univ fun k => sndAny c k :=
  bigSep_mono fun k _ => snd_any c k f

theorem snd_split (c : Dev nD) :
    iprop(∃ f : Buf (Elt F) ((c : Thread nD τ).loc cc0_scratch0), ((c : Thread nD τ).loc cc0_scratch0) ↦{fullShare} f)
      ⊢ (bigSep Finset.univ fun k => sndAny c k : sProp 𝕄) := by
  iintro ⟨%f, H⟩
  ihave H := (BIBase.Entails.of_eq (Ring.pointsTo_blocks (sndI c) (snd_disjoint c) (snd_cover c) f)) $$ H
  iapply (snd_weaken c f)
  iexact H

theorem snd_join (c : Dev nD) (f : Buf (Elt F) ((c : Thread nD τ).loc cc0_scratch0)) :
    (bigSep Finset.univ fun k => sndAny c k : sProp 𝕄)
      ⊢ iprop(∃ f : Buf (Elt F) ((c : Thread nD τ).loc cc0_scratch0), ((c : Thread nD τ).loc cc0_scratch0) ↦{fullShare} f) := by
  unfold sndAny
  exact Ring.pointsTo_blocks_join_exists (sndI c) (snd_disjoint c) (snd_cover c) f

/-- The elements of slot `k` of the receive buffer. -/
abbrev rcvI (c : Dev nD) (k : Fin 4) : Finset (Idx ((c : Thread nD τ).loc cc0_scratch1)) := (rcvM.access (slot k)).set
theorem rcv_disjoint (c : Dev nD) (k l : Fin 4) (h : k ≠ l) : Disjoint (rcvI c k) (rcvI c l) := by
  have hd := slots_disjoint k l h
  rw [← rcv_set, ← rcv_set] at hd
  exact hd
theorem rcv_cover (c : Dev nD) : Finset.univ.biUnion (rcvI c) = Finset.univ := by
  have hc := slots_cover
  simp only [← rcv_set] at hc
  exact hc

theorem rcv_weaken (c : Dev nD) (f : Buf (Elt F) ((c : Thread nD τ).loc cc0_scratch1)) :
    (bigSep Finset.univ fun k : Fin 4 => (((c : Thread nD τ).loc cc0_scratch1) ↦[rcvI c k]{fullShare} f) : sProp 𝕄)
      ⊢ bigSep Finset.univ fun k => rcvAny c k :=
  bigSep_mono fun k _ => rcv_any c k f

theorem rcv_split (c : Dev nD) :
    iprop(∃ f : Buf (Elt F) ((c : Thread nD τ).loc cc0_scratch1), ((c : Thread nD τ).loc cc0_scratch1) ↦{fullShare} f)
      ⊢ (bigSep Finset.univ fun k => rcvAny c k : sProp 𝕄) := by
  iintro ⟨%f, H⟩
  ihave H := (BIBase.Entails.of_eq (Ring.pointsTo_blocks (rcvI c) (rcv_disjoint c) (rcv_cover c) f)) $$ H
  iapply (rcv_weaken c f)
  iexact H

theorem rcv_join (c : Dev nD) (f : Buf (Elt F) ((c : Thread nD τ).loc cc0_scratch1)) :
    (bigSep Finset.univ fun k => rcvAny c k : sProp 𝕄)
      ⊢ iprop(∃ f : Buf (Elt F) ((c : Thread nD τ).loc cc0_scratch1), ((c : Thread nD τ).loc cc0_scratch1) ↦{fullShare} f) := by
  unfold rcvAny
  exact Ring.pointsTo_blocks_join_exists (rcvI c) (rcv_disjoint c) (rcv_cover c) f

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ slots
  iintro ⟨Hs, -, Hsnd, Hrcv⟩
  isplitl [Hs]; · iexact Hs
  isplitl [Hsnd]
  · iapply (snd_split c); iexact Hsnd
  iapply (rcv_split c); iexact Hrcv

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ slots
  iintro ⟨⟨Hsnd, Hrcv⟩, Hz⟩
  ihave Hz := (BIBase.Entails.of_eq (sems_eq (F := F) c).symm) $$ Hz
  icases Hz with ⟨Hu, Ho⟩
  isplitl [Hu]; · iexact Hu
  isplitl [Ho]; · iexact Ho
  isplitl [Hsnd]
  · iapply (snd_join c (m _)); iexact Hsnd
  iapply (rcv_join c (m _)); iexact Hrcv

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the semaphores at zero, for any float values: every weakly fair run of the program on the eight
devices ends, with every array as computed and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The ids and the table end as they began. -/
theorem finalA_ids (c : Dev nD) : finalA m ρ c (0 : Fin 3) = (s₀ m ρ).mem (win0_0.arr.view.loc (c : Thread nD τ)) :=
  (dats (F := F) m ρ 0 c).arrAt_in (0 : Fin 3) rfl _
theorem finalA_tab (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.KernelIdeal.Chunk.lean ====
/-
# What one chunk comes to in exact arithmetic

A chunk multiplies a matrix of zeros and ones by the local half of the table, a slab at a time. Row `r` of the matrix
has its one where the slab's row number is the chunk's local row number, so the product picks that row of the half,
and is zero when the local row number is outside it.
-/
module

public import proofs.«01_k».proof.Proof.KernelIdeal.Contents
public import Idealize.ShloMosaic.PureOps.Ideal.Laws
public import Idealize.ShloMosaic.Lib.MatmulPlain
public import Idealize.ShloMosaic.Lib.ValueLayoutCasts
public import Idealize.ShloMosaic.Lib.ValueLayout
public import Idealize.ShloMosaic.Lib.Pipeline.Value
public import Idealize.ShloMosaic.Lib.StableHlo.Predicate

@[expose] public section

noncomputable section

namespace Cert.KernelIdealProof

open Cert.KernelIdeal Cert.KernelIdeal.Gen
open Idealize.ShloMosaic Idealize.ShloMosaic.ValueIdx

/-- Entry `(r, k)` of the zero-one matrix of a slab whose first row is `o`: one where row `o + k` is asked for. -/
theorem hot_apply (cl : IVec S128x1 32) (o : BitVec 32) (r : Fin 128) (k : Fin 1024) :
    hot (F := Ideal) cl o (ix2 r k) = if BitVec.ofNat 32 k.val + o = cl (ix2 r 0) then 1 else 0 := by
  have hi : iota .tc S128x1024 32 [1] iota_S128x1024_d1_w32 (ix2 r k) = BitVec.ofNat 32 k.val := by
    unfold iota
    simp
  have hb : broadcastTo S128x1024 cl broadcasts_S128x1_S128x1024 (ix2 r k) = cl (ix2 r 0) := by
    unfold broadcastTo
    congr 1
    funext a
    fin_cases a <;> rfl
  have he : hot (F := Ideal) cl o (ix2 r k)
      = (((IntOp.cmpi .eq (iota .tc S128x1024 32 [1] iota_S128x1024_d1_w32 (ix2 r k) + o)
          (broadcastTo S128x1024 cl broadcasts_S128x1_S128x1024 (ix2 r k))).setWidth 32).toInt : ℝ) := rfl
  rw [he, hi, hb]
  split_ifs with h
  · rw [StableHlo.Predicate.cmpi_eq_iff.mpr h]
    norm_num
  · rw [eq_zero_of_ne_one (fun e => h (StableHlo.Predicate.cmpi_eq_iff.mp e))]
    norm_num

/-- A slab's contribution: the row asked for if the slab has it, else zero. -/
theorem term_apply (cl : IVec S128x1 32) (o : BitVec 32) (E : Vec Ideal S1024x512 .bf16) (r : Fin 128) (j : Fin 512) :
    term (F := Ideal) cl o E (ix2 r j)
      = if h : (cl (ix2 r 0) - o).toNat < 1024 then E (ix2 ⟨_, h⟩ j) else 0 := by
  have hm : term (F := Ideal) cl o E (ix2 r j)
      = ∑ k : Fin 1024, hot (F := Ideal) cl o (ix2 r k) * E (ix2 k j) := by
    unfold term
    rw [shapeCast_self]
    refine (Ideal.matmul_plain_apply none _ _ _ r j).trans ?_
    rw [show constant (F := Ideal) S128x512 .f32 0x00000000#32 (ix2 r j) = 0 from Ideal.ofBits_zero_f32, zero_add]
  rw [hm]
  have key : ∀ k : Fin 1024, BitVec.ofNat 32 k.val + o = cl (ix2 r 0) ↔ (cl (ix2 r 0) - o).toNat = k.val := by
    intro k
    have hk := k.isLt
    constructor
    · intro e
      rw [← e, BitVec.add_sub_cancel, BitVec.toNat_ofNat]
      omega
    · intro e
      rw [← e, BitVec.ofNat_toNat, BitVec.setWidth_eq, BitVec.sub_add_cancel]
  split_ifs with h
  · rw [Finset.sum_eq_single (⟨_, h⟩ : Fin 1024)]
    · rw [hot_apply, if_pos ((key _).mpr rfl), one_mul]
    · intro k _ hk
      rw [hot_apply, if_neg (fun e => hk (Fin.ext ((key k).mp e).symm)), zero_mul]
    · exact fun hn => absurd (Finset.mem_univ _) hn
  · refine Finset.sum_eq_zero fun k _ => ?_
    rw [hot_apply, if_neg (fun e => h (by rw [(key k).mp e]; exact k.isLt)), zero_mul]

/-- Row `k` of slab `s` is row `1024 s + k` of the half. -/
theorem slab_apply (T : Vec Ideal S4096x512 .bf16) (s : Fin 4) (k : Fin 1024) (j : Fin 512) :
    slab T s (ix2 k j) = T (ix2 ⟨1024 * s.val + k.val, by omega⟩ j) := by
  have : (slabR s).emb (ix2 k j) = (ix2 ⟨1024 * s.val + k.val, by omega⟩ j : S4096x512.Idx) := by
    funext a
    fin_cases a
    · exact Fin.ext (by simp)
    · exact Fin.ext (by simp)
  exact congrArg T this

/-- A chunk: the row of the half with the local row number asked for, zero when there is none. -/
theorem chunk_apply (cl : IVec S128x1 32) (T : Vec Ideal S4096x512 .bf16) (r : Fin 128) (j : Fin 512) :
    chunk (F := Ideal) cl (slab T) (ix2 r j)
      = if h : (cl (ix2 r 0)).toNat < 4096 then T (ix2 ⟨_, h⟩ j) else 0 := by
  have hs : chunk (F := Ideal) cl (slab T) (ix2 r j)
      = ((term (F := Ideal) cl 0#32 (slab T 0) (ix2 r j) + term (F := Ideal) cl 1024#32 (slab T 1) (ix2 r j))
          + term (F := Ideal) cl 2048#32 (slab T 2) (ix2 r j)) + term (F := Ideal) cl 3072#32 (slab T 3) (ix2 r j) := rfl
  have step : ∀ (o : BitVec 32) (s : Fin 4) (ho : o.toNat = 1024 * s.val),
      term (F := Ideal) cl o (slab T s) (ix2 r j)
        = if h : 1024 * s.val ≤ (cl (ix2 r 0)).toNat ∧ (cl (ix2 r 0)).toNat < 1024 * s.val + 1024
          then T (ix2 ⟨(cl (ix2 r 0)).toNat, by omega⟩ j) else 0 := by
    intro o s ho
    have hl := (cl (ix2 r 0)).isLt
    have hs := s.isLt
    rw [term_apply]
    by_cases h : 1024 * s.val ≤ (cl (ix2 r 0)).toNat ∧ (cl (ix2 r 0)).toNat < 1024 * s.val + 1024
    · have hd : (cl (ix2 r 0) - o).toNat = (cl (ix2 r 0)).toNat - 1024 * s.val := by
        rw [BitVec.toNat_sub, ho]
        omega
      rw [dif_pos h, dif_pos (by omega : (cl (ix2 r 0) - o).toNat < 1024), slab_apply]
      congr 2
      exact Fin.ext (by simp only [hd]; omega)
    · have hd : ¬ (cl (ix2 r 0) - o).toNat < 1024 := by
        rw [BitVec.toNat_sub, ho]
        omega
      rw [dif_neg h, dif_neg hd]
  rw [hs, step _ 0 rfl, step _ 1 rfl, step _ 2 rfl, step _ 3 rfl]
  have h0 : ((0 : Fin 4) : ℕ) = 0 := rfl
  have h1 : ((1 : Fin 4) : ℕ) = 1 := rfl
  have h2 : ((2 : Fin 4) : ℕ) = 2 := rfl
  have h3 : ((3 : Fin 4) : ℕ) = 3 := rfl
  by_cases h : (cl (ix2 r 0)).toNat < 4096
  · rw [dif_pos h]
    rcases (by omega : (cl (ix2 r 0)).toNat / 1024 = 0 ∨ (cl (ix2 r 0)).toNat / 1024 = 1
      ∨ (cl (ix2 r 0)).toNat / 1024 = 2 ∨ (cl (ix2 r 0)).toNat / 1024 = 3) with e | e | e | e
    · rw [dif_pos (by omega), dif_neg (by omega), dif_neg (by omega), dif_neg (by omega), add_zero, add_zero, add_zero]
    · rw [dif_neg (by omega), dif_pos (by omega), dif_neg (by omega), dif_neg (by omega), zero_add, add_zero, add_zero]
    · rw [dif_neg (by omega), dif_neg (by omega), dif_pos (by omega), dif_neg (by omega), zero_add, zero_add, add_zero]
    · rw [dif_neg (by omega), dif_neg (by omega), dif_neg (by omega), dif_pos (by omega), zero_add, zero_add, zero_add]
  · rw [dif_neg h, dif_neg (by omega), dif_neg (by omega), dif_neg (by omega), dif_neg (by omega), add_zero, add_zero,
      add_zero]

/-- The local row number device `c` gives row `r` of chunk `k`: the id less the first row of its half. -/
theorem col_apply (c : Dev nD) (ids : Vec Ideal S512 .i32) (k : Fin 4) (r : Fin 128) :
    col (F := Ideal) c ids k (ix2 r 0)
      = ids (ix1 ⟨128 * k.val + r.val, by omega⟩) - BitVec.ofNat 32 (4096 * (c.val / 4)) := by
  have hw : Scalar.muli (Scalar.remsi (Scalar.divsi (Dev.word c) 4#32) 2#32) 4096#32
      = BitVec.ofNat 32 (4096 * (c.val / 4)) := by revert c; decide
  have hx : (fun a : Fin 2 => (⟨(![128 * k.val, 0] : Fin 2 → ℕ) a + ((ix2 r 0 : S128x1.Idx) a).val,
      Nat.lt_of_lt_of_le (Nat.add_lt_add_left ((ix2 r 0 : S128x1.Idx) a).isLt _) ((col_slices k).2 a)⟩ : Fin (S512x1.size a)))
      = (ix2 ⟨128 * k.val + r.val, by omega⟩ 0 : S512x1.Idx) := by
    funext a
    fin_cases a <;> rfl
  show k0_pay1 c ids _ = _
  refine (congrArg (k0_pay1 c ids) hx).trans ?_
  show shapeCast S512x1 (shapeCast S512 ids shapeCasts_S512_S512) shapeCasts_S512_S512x1 _ - _ = _
  rw [shapeCast_self, shapeCast_a_a1_apply]
  exact congrArg _ hw

/-- What device `c` finds for row `r` of chunk `k`: its row of the local half, or zero. -/
theorem acc_apply (c : Dev nD) (ids : Vec Ideal S512 .i32) (T : Vec Ideal S4096x512 .bf16) (k : Fin 4) (r : Fin 128)
    (j : Fin 512) :
    acc (F := Ideal) c ids T k (ix2 r j)
      = if h : (ids (ix1 ⟨128 * k.val + r.val, by omega⟩) - BitVec.ofNat 32 (4096 * (c.val / 4))).toNat < 4096
        then T (ix2 ⟨_, h⟩ j) else 0 := by
  unfold acc
  rw [chunk_apply]
  simp only [col_apply]

/-- Own and received chunk added up, when the received one was sent as `b`. -/
theorem joined_apply (a b : FVec Ideal S128x512 .f32) (x : S128x512.Idx) :
    joined (F := Ideal) a (shapeCast S1x128x512 (truncf .bf16 b bitsLt_bf16_f32) shapeCasts_S128x512_S1x128x512) x
      = a x + b x := by
  unfold joined
  rw [shapeCast_shapeCast]
  rfl

end Cert.KernelIdealProof

end
-- ==== Proof.KernelIdeal.Result.lean ====
/-
# What the result array holds

After the run every device's result array holds the four row blocks the body stored. In exact arithmetic entry
`(t, j)` is what the device found for id `t` in its own half of the table, plus what its partner found in the other.
-/
module

public import proofs.«01_k».proof.Proof.KernelIdeal.Chunk
public import proofs.«01_k».proof.Proof.KernelIdeal.Launch

@[expose] public section

noncomputable section

namespace Cert.KernelIdealProof

open Cert.KernelIdeal Cert.KernelIdeal.Gen
open Idealize.ShloMosaic Idealize.ShloMosaic.TcCoe Idealize.ShloMosaic.ValueIdx

section Arrays

variable {F : FTy → Type} [FloatOps F]
variable (m : (ℓ : Loc nD τ sig) → Buf (Elt F) ℓ) (ρ : Dev nD → PrngReg)

/-- The staged ids are the device's ids. -/
theorem idsAt_eq (c : Dev nD) : idsAt m c = m ((c : Thread nD τ).loc main_arg0) :=
  Memref.read_access_unit_zero (Elt F) main_arg0 (funext fun a => by fin_cases a; decide)
    (fun a => by fin_cases a; decide) _

/-- The staged half of the table is the device's half. -/
theorem tabAt_eq (c : Dev nD) : tabAt m c = m ((c : Thread nD τ).loc main_arg1) :=
  Memref.read_access_unit_zero (Elt F) main_arg1 (funext fun a => by fin_cases a <;> decide)
    (fun a => by fin_cases a <;> decide) _

/-- The result array ends holding the output the body left. -/
theorem finalA_out (c : Dev nD) : finalA m ρ c (2 : Fin 3) = outAt m c := by
  have hr := fun f => Memref.read_access_unit_zero (Elt F) main_v1
    (funext fun a => by fin_cases a <;> decide : (fun a => (win0_2.index (0 : Fin 1)) a * main_v1.ty.shape.size a) = fun _ => 0)
    (fun a => by fin_cases a <;> decide) f
  have hw : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1),
      if_pos (by decide : (cfg0.win (2 : Fin 3)).flush (0 : Fin 1) = true)]
    exact View.read_write_univ _ _
  exact (hr _).symm.trans hw

end Arrays

/-- What a device whose half begins at row `4096 x` finds for id `t`, entry `j`. -/
def found (ids : Vec Ideal S512 .i32) (T : Vec Ideal S4096x512 .bf16) (x : ℕ) (t j : Fin 512) : EReal :=
  if h : (ids (ix1 t) - BitVec.ofNat 32 (4096 * x)).toNat < 4096 then T (ix2 ⟨_, h⟩ j) else 0

variable (m : (ℓ : Loc nD τ sig) → Buf (Elt Ideal) ℓ)

/-- Entry `(t, j)` of a device's output: what it and its partner found, added up. -/
theorem outAt_apply (c : Dev nD) (t j : Fin 512) :
    outAt m c (ix2 t j)
      = found (m ((c : Thread nD τ).loc main_arg0)) (m ((c : Thread nD τ).loc main_arg1)) (c.val / 4) t j
        + found (m ((peer c : Thread nD τ).loc main_arg0)) (m ((peer c : Thread nD τ).loc main_arg1))
            ((peer c).val / 4) t j := by
  have ht := t.isLt
  have hx : (rows ⟨t.val / 128, by omega⟩).emb (ix2 (⟨t.val % 128, by omega⟩ : Fin 128) j) = (ix2 t j : S512x512.Idx) := by
    funext a
    fin_cases a
    · exact Fin.ext (show 128 * (t.val / 128) + 1 * (t.val % 128) = t.val by omega)
    · exact Fin.ext (show 0 + 1 * j.val = j.val by omega)
  have hi : (⟨128 * (t.val / 128) + t.val % 128, by omega⟩ : Fin 512) = t := Fin.ext (by simp; omega)
  have hr := congrFun (read_stores (F := Ideal) (constant S512x512 .f32 0x00000000#32 : FVec Ideal S512x512 .f32)
    (fun k => joined (accAt m c k) (partAt m (peer c) k)) ⟨t.val / 128, by omega⟩) (ix2 (⟨t.val % 128, by omega⟩ : Fin 128) j)
  rw [read_rows, hx] at hr
  refine hr.trans ((joined_apply _ _ _).trans ?_)
  unfold accAt found
  rw [acc_apply, acc_apply, idsAt_eq, tabAt_eq, idsAt_eq, tabAt_eq]
  simp only [hi]

end Cert.KernelIdealProof

end
-- ==== Proof.Reference.lean ====
/-
# What the reference computes

Under the precondition every id names a row of the table, so neither the wrap-around of negative ids nor the clamp of
the row lookup changes anything: entry `(t, j)` of the reference's result is the table's entry `(id t, j)`.
-/
module

public import proofs.«01_k».proof.Proof.Gen.ReferenceIdeal
public import proofs.«01_k».proof.Proof.Gen.ReferenceIdeal.Run
public import proofs.«01_k».proof.Proof.Gen.Pre_ids_in_vocabulary_KernelIdeal
public import Idealize.ShloMosaic.PureOps.Ideal.Laws
public import Idealize.ShloMosaic.Lib.ValueIdxCore
public import Idealize.ShloMosaic.Lib.ReduceAll
public import Idealize.ShloMosaic.Lib.StableHlo.Predicate

@[expose] public section

noncomputable section

namespace Cert.ReferenceProof

open Cert.ReferenceIdeal Cert.ReferenceIdeal.Gen
open Idealize.ShloMosaic Idealize.ShloMosaic.ValueIdx

/-- A word that is at least zero and below 8192, both read signed, is below 8192 read unsigned. -/
theorem small_of_bounds (b : BitVec 32) (h0 : (0#32).sle b = true) (h1 : b.slt 8192#32 = true) : b.toNat < 8192 := by
  rw [BitVec.sle_iff_toInt_le] at h0
  rw [BitVec.slt_iff_toInt_lt] at h1
  have e0 : (0#32).toInt = 0 := rfl
  have e1 : (8192#32).toInt = 8192 := rfl
  have hl := b.isLt
  have hc := BitVec.toInt_eq_toNat_cond b
  split at hc <;> omega

/-- The precondition: every id names a row of the table. -/
theorem ids_small (ids : IVec S512 32) (E : FVec Ideal ⟨2, ![4096, 512]⟩ .bf16)
    (h : Cert.Pre_ids_in_vocabulary_KernelIdeal.fn (F := Ideal) ids E = fun _ => 1#1) (t : Fin 512) :
    (ids (ix1 t)).toNat < 8192 := by
  haveI : Subsingleton (Cert.Pre_ids_in_vocabulary_KernelIdeal.S_).Idx := ⟨fun a b => funext fun i => i.elim0⟩
  have hb := Host.reduce_andi_all _ _ _ _ ix0 (congrFun h ix0) (ix1 t)
  obtain ⟨hge, hlt⟩ := IntOp.andi_eq_one.1 hb
  exact small_of_bounds _ ((StableHlo.Predicate.ofBool_eq_one_iff _).mp hge)
    ((StableHlo.Predicate.ofBool_eq_one_iff _).mp hlt)

/-- The row lookup read at `(t, j)`: column `j` of the row that start index `t` names, clamped to the table. -/
theorem rows_taken (E : FVec Ideal S8192x512 .bf16) (ix : IVec S512x1 32) (t j : Fin 512) (n : ℕ) (hn : n < 8192)
    (h : (ix (ix2 t 0)).toInt = n) :
    Host.gather gather_S8192x512_S512x1_S512x512_1_0_n_n_0_1_1512 E ix (ix2 t j) = E (ix2 ⟨n, hn⟩ j) := by
  unfold Host.gather
  congr 1
  funext a
  apply Fin.ext
  have hs : ∀ p, gather_S8192x512_S512x1_S512x512_1_0_n_n_0_1_1512.siIdx (ix2 t j) p = ix2 t 0 := by
    intro p
    have hp : p = ⟨0, Nat.one_pos⟩ := Fin.ext (Nat.lt_one_iff.mp p.isLt)
    subst hp
    funext b
    fin_cases b <;> rfl
  fin_cases a
  · have hst : gather_S8192x512_S512x1_S512x512_1_0_n_n_0_1_1512.start (ix2 t j) ix 0 = n := by
      unfold GatherDims.start
      rw [dif_pos (show (0 : Fin 2) ∈ gather_S8192x512_S512x1_S512x512_1_0_n_n_0_1_1512.startIndexMap from
        List.mem_singleton.mpr rfl), hs, h]
      show min n (8192 - 1) = n
      omega
    have hk : (0 : Fin 2) ∉ gather_S8192x512_S512x1_S512x512_1_0_n_n_0_1_1512.sKept := by decide
    show gather_S8192x512_S512x1_S512x512_1_0_n_n_0_1_1512.start (ix2 t j) ix 0
      + gather_S8192x512_S512x1_S512x512_1_0_n_n_0_1_1512.batchCoord (ix2 t j) 0
      + gather_S8192x512_S512x1_S512x512_1_0_n_n_0_1_1512.offCoord (ix2 t j) 0 = n
    rw [hst, GatherDims.offCoord_eq_zero _ _ _ hk]
    rfl
  · show gather_S8192x512_S512x1_S512x512_1_0_n_n_0_1_1512.start (ix2 t j) ix 1
      + gather_S8192x512_S512x1_S512x512_1_0_n_n_0_1_1512.batchCoord (ix2 t j) 1
      + gather_S8192x512_S512x1_S512x512_1_0_n_n_0_1_1512.offCoord (ix2 t j) 1 = j.val
    have h0 : gather_S8192x512_S512x1_S512x512_1_0_n_n_0_1_1512.start (ix2 t j) ix 1 = 0 := by
      unfold GatherDims.start
      exact dif_neg (by decide)
    have h1 : gather_S8192x512_S512x1_S512x512_1_0_n_n_0_1_1512.batchCoord (ix2 t j) 1 = 0 :=
      GatherDims.batchCoord_eq_zero _ _ _ List.not_mem_nil
    rw [h0, h1, Nat.zero_add]
    rfl

/-- A vector laid out as a column, read at row `t`. -/
theorem as_column (x : IVec S512 32) (t : Fin 512) :
    broadcastInDim S512x1 ![0] bcast_S512_S512x1_0 x (ix2 t 0) = x (ix1 t) := by
  unfold broadcastInDim
  congr 1
  funext a
  fin_cases a
  rfl

/-- The reference's result as its program composes it. -/
def result (ids : IVec S512 32) (E : FVec Ideal S8192x512 .bf16) : FVec Ideal S512x512 .f32 :=
  extf .f32 (Host.gather gather_S8192x512_S512x1_S512x512_1_0_n_n_0_1_1512 E (broadcastInDim S512x1 ![0]
    bcast_S512_S512x1_0 (select (cmpi .slt ids (broadcastInDim S512 ![] bcast_S_S512 (constantI S_ 32 0#32)))
      (addi ids (broadcastInDim S512 ![] bcast_S_S512 (constantI S_ 32 8192#32))) ids))) bitsLt_bf16_f32

/-- Entry `(t, j)` of the reference's result is entry `(id t, j)` of the table. -/
theorem result_apply (ids : IVec S512 32) (E : FVec Ideal S8192x512 .bf16) (t j : Fin 512)
    (h : (ids (ix1 t)).toNat < 8192) : result ids E (ix2 t j) = E (ix2 ⟨_, h⟩ j) := by
  have hint : (ids (ix1 t)).toInt = ((ids (ix1 t)).toNat : ℤ) :=
    StableHlo.Predicate.toInt_eq_toNat_of_lt (by omega)
  refine rows_taken E _ t j _ h ?_
  have hc : (BitVec.ofBool ((ids (ix1 t)).slt 0#32)) = 0#1 := by
    have : (ids (ix1 t)).slt 0#32 = false := by
      rw [Bool.eq_false_iff, ne_eq, BitVec.slt_iff_toInt_lt, hint]
      exact fun e => absurd e (by simp)
    rw [this]
    rfl
  rw [as_column]
  show (Scalar.select (BitVec.ofBool ((ids (ix1 t)).slt 0#32)) (ids (ix1 t) + 8192#32) (ids (ix1 t))).toInt = _
  rw [hc, select_zero, hint]

end Cert.ReferenceProof

end
-- ==== Proof.Equation.lean ====
/-
# The kernel's result is the reference's

Every id lies in exactly one half of the table. The device that holds that half finds the id's row, its partner finds
zero, and their sum is the row itself, which is what the reference looks up.
-/
module

public import proofs.«01_k».proof.Proof.KernelIdeal.Result
public import proofs.«01_k».proof.Proof.Reference
public import Idealize.ShloMosaic.Lib.Layout

@[expose] public section

noncomputable section

namespace Cert.EquationProof

open Cert.KernelIdeal Cert.KernelIdeal.Gen Cert.KernelIdealProof
open Idealize.ShloMosaic Idealize.ShloMosaic.TcCoe Idealize.ShloMosaic.ValueIdx

/-- Device `c`'s half of the whole table: rows `4096 x` and on, `x` its place on the mesh's first axis. -/
abbrev half (E : FVec Ideal ⟨2, ![8192, 512]⟩ .bf16) (c : Dev nD) : FVec Ideal S4096x512 .bf16 :=
  Layout.blockN ⟨2, ![4096, 512]⟩ ⟨2, ![8192, 512]⟩ (Layout.meshBlock [2, 2, 2] ![[0], []] c) E

/-- Row `n` of device `c`'s half is row `4096 x + n` of the table. -/
theorem half_apply (E : FVec Ideal ⟨2, ![8192, 512]⟩ .bf16) (c : Dev nD) (n : Fin 4096) (j : Fin 512) :
    half E c (ix2 n j) = E (ix2 ⟨4096 * (c.val / 4) + n.val, by have := c.isLt; change c.val < 8 at this; omega⟩ j) := by
  have hc : (Layout.meshBlock [2, 2, 2] ![[0], []] c (by decide) 0).val = c.val / 4 := by revert c; decide
  have hd : (Layout.meshBlock [2, 2, 2] ![[0], []] c (by decide) 1).val = 0 := rfl
  show E _ = E _
  congr 1
  funext a
  fin_cases a
  · exact Fin.ext (show (Layout.meshBlock [2, 2, 2] ![[0], []] c (by decide) 0).val * 4096 + n.val = 4096 * (c.val / 4) + n.val by
      rw [hc]; omega)
  · exact Fin.ext (show (Layout.meshBlock [2, 2, 2] ![[0], []] c (by decide) 1).val * 512 + j.val = j.val by rw [hd]; omega)

/-- The device whose half has the id's row finds it; another finds zero. -/
theorem found_half (ids : Vec Ideal S512 .i32) (E : FVec Ideal ⟨2, ![8192, 512]⟩ .bf16) (c : Dev nD) (t j : Fin 512)
    (h : (ids (ix1 t)).toNat < 8192) :
    found ids (half E c) (c.val / 4) t j
      = if (ids (ix1 t)).toNat / 4096 = c.val / 4 then E (ix2 ⟨_, h⟩ j) else 0 := by
  have hc : c.val < 8 := c.isLt
  have hs : (ids (ix1 t) - BitVec.ofNat 32 (4096 * (c.val / 4))).toNat
      = (2 ^ 32 - 4096 * (c.val / 4) + (ids (ix1 t)).toNat) % 2 ^ 32 := by
    rw [BitVec.toNat_sub, BitVec.toNat_ofNat, Nat.mod_eq_of_lt (by omega : 4096 * (c.val / 4) < 2 ^ 32)]
  unfold found
  by_cases e : (ids (ix1 t)).toNat / 4096 = c.val / 4
  · rw [if_pos e, dif_pos (by rw [hs]; omega), half_apply]
    congr 2
    exact Fin.ext (by simp only [hs]; omega)
  · rw [if_neg e, dif_neg (by rw [hs]; omega)]

/-- With every id in the vocabulary, every device's output is the reference's result. -/
theorem output (m : (ℓ : Loc nD τ sig) → Buf (Elt Ideal) ℓ) (ids : Vec Ideal S512 .i32)
    (E : FVec Ideal ⟨2, ![8192, 512]⟩ .bf16)
    (hids : ∀ c : Dev nD, m ((c : Thread nD τ).loc main_arg0) = ids)
    (hE : ∀ c : Dev nD, m ((c : Thread nD τ).loc main_arg1) = half E c)
    (hv : ∀ t : Fin 512, (ids (ix1 t)).toNat < 8192) (c : Dev nD) :
    outAt m c = Cert.ReferenceProof.result ids E := by
  funext i
  obtain ⟨t, j, rfl⟩ : ∃ t j, i = (ix2 t j : S512x512.Idx) := ⟨i 0, i 1, eq_ix2 i⟩
  refine (outAt_apply m c t j).trans (Eq.trans ?_ (Cert.ReferenceProof.result_apply ids E t j (hv t)).symm)
  rw [hids, hids, hE, hE, found_half _ _ _ _ _ (hv t), found_half _ _ _ _ _ (hv t)]
  have hp : (peer c).val / 4 = 1 - c.val / 4 := by revert c; decide
  have hc : c.val < 8 := c.isLt
  have ht := hv t
  by_cases e : (ids (ix1 t)).toNat / 4096 = c.val / 4
  · rw [if_pos e, if_neg (by omega), add_zero]
  · rw [if_neg e, if_pos (by omega), zero_add]

end Cert.EquationProof

end
-- ==== Proof.lean ====
/-
# The certificate

The kernel on eight devices looks 512 ids up in a table cut in two along the mesh's first axis; the reference looks
them up in the whole table. Proved here: every program of the certificate ends with its arguments unchanged and every
semaphore at zero, and in exact arithmetic, for ids in the vocabulary, every device's result is the reference's.

`Kernel/` and `KernelIdeal/` hold the run of the kernel (what the buffers hold, the exchange protocol, the body, the
launch); `KernelIdeal/Chunk` and `KernelIdeal/Result` say what it computes, `Reference` what the reference computes,
`Equation` that the two are the same.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_vocabulary_KernelIdeal
public import proofs.«01_k».proof.Proof.Gen.Pre_ids_in_vocabulary_ReferenceIdeal
public import proofs.«01_k».proof.Proof.Kernel.Launch
public import proofs.«01_k».proof.Proof.KernelIdeal.Launch
public import proofs.«01_k».proof.Proof.Equation
public import Idealize.ShloMosaic.Lib.Quiescent
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The kernel on bit patterns: it ends, arguments unchanged, every semaphore at zero. -/
theorem frame_kernel : Cert.quiescent_Kernel := fun m ρ _ =>
  θ_run_mono (Cert.KernelProof.run_main (F := Bits) m ρ) fun _ h =>
    ⟨fun c => ⟨(h.1 c (0 : Fin 3)).trans (Cert.KernelProof.finalA_ids m ρ c),
      (h.1 c (1 : Fin 3)).trans (Cert.KernelProof.finalA_tab m ρ c)⟩, h.2⟩

/-- The kernel in exact arithmetic: the same. -/
theorem frame_kernelIdeal : Cert.quiescent_KernelIdeal := fun m ρ _ =>
  θ_run_mono (Cert.KernelIdealProof.run_main (F := Ideal) m ρ) fun _ h =>
    ⟨fun c => ⟨(h.1 c (0 : Fin 3)).trans (Cert.KernelIdealProof.finalA_ids m ρ c),
      (h.1 c (1 : Fin 3)).trans (Cert.KernelIdealProof.finalA_tab m ρ c)⟩, h.2⟩

/-- The reference: it ends, arguments unchanged, and it has no semaphore. -/
theorem frame_referenceIdeal : Cert.quiescent_ReferenceIdeal := fun m ρ _ =>
  θ_run_mono (Cert.ReferenceIdeal.Value.run (F := Ideal) m ρ) fun r h =>
    ⟨fun c => (h c).2, sem_eq_zero_of_no_sems (by decide) r.2⟩

/-- The two runs in exact arithmetic, for ids in the vocabulary: every device ends with the reference's result. -/
theorem algebraic : Cert.algebraic_KernelIdeal_ReferenceIdeal_pre_ids_in_vocabulary_KernelIdeal := by
  intro m ρ m' ρ' hpre hag
  have hv := fun t => Cert.ReferenceProof.ids_small _ _ (hpre 0) t
  rw [(hag 0).1] at hv
  refine ⟨Cert.ReferenceProof.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, ?_⟩
  · refine θ_run_mono (Cert.KernelIdealProof.run_main (F := Ideal) m ρ) fun _ h c =>
      ⟨((h.1 c (2 : Fin 3)).trans (Cert.KernelIdealProof.finalA_out m ρ c)).trans
          (Cert.EquationProof.output m _ _ (fun c => (hag c).1) (fun c => (hag c).2) hv c),
        (h.1 c (0 : Fin 3)).trans (Cert.KernelIdealProof.finalA_ids m ρ c),
        (h.1 c (1 : Fin 3)).trans (Cert.KernelIdealProof.finalA_tab m ρ c)⟩
  · exact θ_run_mono (Cert.ReferenceIdeal.Value.run (F := Ideal) m' ρ') fun _ h => h 0

/-- Every claim of the certificate. -/
theorem claim : Cert.Claim :=
  ⟨Cert.Kernel.Gen.facts, Cert.KernelIdeal.Gen.facts, Cert.ReferenceIdeal.Gen.facts,
    Cert.Pre_ids_in_vocabulary_KernelIdeal.Gen.facts, Cert.Pre_ids_in_vocabulary_ReferenceIdeal.Gen.facts,
    frame_kernel, frame_kernelIdeal, fun m ρ _ => frame_kernelIdeal m ρ trivial,
    frame_referenceIdeal, fun m ρ _ => frame_referenceIdeal m ρ trivial, trivial, algebraic⟩

end Cert.Proof

end
